-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x18432 : Shape := ⟨3, ![4, 2048, 18432]⟩
abbrev S18432x3584 : Shape := ⟨2, ![18432, 3584]⟩
abbrev S144x7168 : Shape := ⟨2, ![144, 7168]⟩
abbrev S18432x16 : Shape := ⟨2, ![18432, 16]⟩
abbrev S16x7168 : Shape := ⟨2, ![16, 7168]⟩
abbrev S8192x18432 : Shape := ⟨2, ![8192, 18432]⟩
abbrev S144x1x7168 : Shape := ⟨3, ![144, 1, 7168]⟩
abbrev S18432x7168 : Shape := ⟨2, ![18432, 7168]⟩
abbrev S1024x512 : Shape := ⟨2, ![1024, 512]⟩
abbrev S8x1x1024 : Shape := ⟨3, ![8, 1, 1024]⟩
abbrev S1024x16 : Shape := ⟨2, ![1024, 16]⟩
abbrev S16x1024 : Shape := ⟨2, ![16, 1024]⟩
abbrev S1024x1024 : Shape := ⟨2, ![1024, 1024]⟩
abbrev S1x1x128 : Shape := ⟨3, ![1, 1, 128]⟩
abbrev S1x128 : Shape := ⟨2, ![1, 128]⟩
abbrev S32x128 : Shape := ⟨2, ![32, 128]⟩
abbrev S8x128 : Shape := ⟨2, ![8, 128]⟩
abbrev S8x128x1 : Shape := ⟨3, ![8, 128, 1]⟩
abbrev S8192x7168 : Shape := ⟨2, ![8192, 7168]⟩
abbrev S1024x2048 : Shape := ⟨2, ![1024, 2048]⟩
abbrev S2048x1024 : Shape := ⟨2, ![2048, 1024]⟩
abbrev S4x2048x7168 : Shape := ⟨3, ![4, 2048, 7168]⟩

abbrev nBuf : Space → Nat
  | .hbm => 12
  | .vmem => 21
  | .smem => 0
  | _ => 0

abbrev bufTy : (tb : Table) → Fin (tcTables nBuf tb) → BufTy
  | .hbm, ⟨0, _⟩ => ⟨S4x2048x18432, .bf16⟩
  | .hbm, ⟨1, _⟩ => ⟨S18432x3584, .i8⟩
  | .hbm, ⟨2, _⟩ => ⟨S144x7168, .bf16⟩
  | .hbm, ⟨3, _⟩ => ⟨S18432x16, .bf16⟩
  | .hbm, ⟨4, _⟩ => ⟨S16x7168, .bf16⟩
  | .hbm, ⟨5, _⟩ => ⟨S18432x16, .bf16⟩
  | .hbm, ⟨6, _⟩ => ⟨S16x7168, .bf16⟩
  | .hbm, ⟨7, _⟩ => ⟨S8192x18432, .bf16⟩
  | .hbm, ⟨8, _⟩ => ⟨S144x1x7168, .bf16⟩
  | .hbm, ⟨9, _⟩ => ⟨S18432x7168, .bf16⟩
  | .hbm, ⟨10, _⟩ => ⟨S8192x7168, .bf16⟩
  | .hbm, ⟨11, _⟩ => ⟨S4x2048x7168, .bf16⟩
  | .local _ .vmem, ⟨0, _⟩ => ⟨S1024x512, .i8⟩
  | .local _ .vmem, ⟨1, _⟩ => ⟨S1024x512, .i8⟩
  | .local _ .vmem, ⟨2, _⟩ => ⟨S8x1x1024, .bf16⟩
  | .local _ .vmem, ⟨3, _⟩ => ⟨S8x1x1024, .bf16⟩
  | .local _ .vmem, ⟨4, _⟩ => ⟨S1024x16, .bf16⟩
  | .local _ .vmem, ⟨5, _⟩ => ⟨S1024x16, .bf16⟩
  | .local _ .vmem, ⟨6, _⟩ => ⟨S16x1024, .bf16⟩
  | .local _ .vmem, ⟨7, _⟩ => ⟨S16x1024, .bf16⟩
  | .local _ .vmem, ⟨8, _⟩ => ⟨S1024x16, .bf16⟩
  | .local _ .vmem, ⟨9, _⟩ => ⟨S1024x16, .bf16⟩
  | .local _ .vmem, ⟨10, _⟩ => ⟨S16x1024, .bf16⟩
  | .local _ .vmem, ⟨11, _⟩ => ⟨S16x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x2048, .bf16⟩
  | .local _ .vmem, ⟨15, _⟩ => ⟨S1024x2048, .bf16⟩
  | .local _ .vmem, ⟨16, _⟩ => ⟨S2048x1024, .bf16⟩
  | .local _ .vmem, ⟨17, _⟩ => ⟨S2048x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .f32⟩
  | _, _ => ⟨S4x2048x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19

abbrev nD : Nat := 1
abbrev τ : Topo := Topo.v7x

variable {F : FTy → Type} [FloatOps F]

abbrev grid0 : Pipeline.Grid := ⟨2, ![7, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x16 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨3, ![8, 7, 9], ![false, false, false]⟩

def k1_cond2 (i : grid1.Coords) : BitVec 1 :=
  let arg2 : BitVec 32 := BitVec.ofNat 32 (i 2).val
  let c8_i32 : BitVec 32 := 8#32
  let v13 : BitVec 1 := Scalar.cmpi .eq arg2 c8_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== ReferenceIdeal.lean ====
abbrev S4x2048x18432 : Shape := ⟨3, ![4, 2048, 18432]⟩
abbrev S18432x3584 : Shape := ⟨2, ![18432, 3584]⟩
abbrev S144x7168 : Shape := ⟨2, ![144, 7168]⟩
abbrev S18432x16 : Shape := ⟨2, ![18432, 16]⟩
abbrev S16x7168 : Shape := ⟨2, ![16, 7168]⟩
abbrev S_ : Shape := ⟨0, ![]⟩
abbrev S144x128x3584 : Shape := ⟨3, ![144, 128, 3584]⟩
abbrev S144x3584 : Shape := ⟨2, ![144, 3584]⟩
abbrev S144x1x3584 : Shape := ⟨3, ![144, 1, 3584]⟩
abbrev S16x3584 : Shape := ⟨2, ![16, 3584]⟩
abbrev S4x2048x3584 : Shape := ⟨3, ![4, 2048, 3584]⟩
abbrev S4x2048x3584x1 : Shape := ⟨4, ![4, 2048, 3584, 1]⟩
abbrev S4x2048x3584x2 : Shape := ⟨4, ![4, 2048, 3584, 2]⟩
abbrev S4x2048x7168 : Shape := ⟨3, ![4, 2048, 7168]⟩

abbrev nBuf : Space → Nat
  | .hbm => 72
  | .vmem => 0
  | .smem => 0
  | _ => 0

abbrev bufTy : (tb : Table) → Fin (tcTables nBuf tb) → BufTy
  | .hbm, ⟨0, _⟩ => ⟨S4x2048x18432, .bf16⟩
  | .hbm, ⟨1, _⟩ => ⟨S18432x3584, .i8⟩
  | .hbm, ⟨2, _⟩ => ⟨S144x7168, .bf16⟩
  | .hbm, ⟨3, _⟩ => ⟨S18432x16, .bf16⟩
  | .hbm, ⟨4, _⟩ => ⟨S16x7168, .bf16⟩
  | .hbm, ⟨5, _⟩ => ⟨S18432x16, .bf16⟩
  | .hbm, ⟨6, _⟩ => ⟨S16x7168, .bf16⟩
  | .hbm, ⟨7, _⟩ => ⟨S18432x3584, .i32⟩
  | .hbm, ⟨8, _⟩ => ⟨S_, .i32⟩
  | .hbm, ⟨9, _⟩ => ⟨S18432x3584, .i32⟩
  | .hbm, ⟨10, _⟩ => ⟨S18432x3584, .i32⟩
  | .hbm, ⟨11, _⟩ => ⟨S_, .i32⟩
  | .hbm, ⟨12, _⟩ => ⟨S18432x3584, .i32⟩
  | .hbm, ⟨13, _⟩ => ⟨S18432x3584, .i1⟩
  | .hbm, ⟨14, _⟩ => ⟨S_, .i32⟩
  | .hbm, ⟨15, _⟩ => ⟨S18432x3584, .i32⟩
  | .hbm, ⟨16, _⟩ => ⟨S18432x3584, .i32⟩
  | .hbm, ⟨17, _⟩ => ⟨S18432x3584, .i32⟩
  | .hbm, ⟨18, _⟩ => ⟨S18432x3584, .bf16⟩
  | .hbm, ⟨19, _⟩ => ⟨S144x128x3584, .bf16⟩
  | .hbm, ⟨20, _⟩ => ⟨S144x3584, .bf16⟩
  | .hbm, ⟨21, _⟩ => ⟨S144x1x3584, .bf16⟩
  | .hbm, ⟨22, _⟩ => ⟨S144x128x3584, .bf16⟩
  | .hbm, ⟨23, _⟩ => ⟨S144x128x3584, .bf16⟩
  | .hbm, ⟨24, _⟩ => ⟨S18432x3584, .bf16⟩
  | .hbm, ⟨25, _⟩ => ⟨S16x3584, .bf16⟩
  | .hbm, ⟨26, _⟩ => ⟨S18432x3584, .f32⟩
  | .hbm, ⟨27, _⟩ => ⟨S16x3584, .bf16⟩
  | .hbm, ⟨28, _⟩ => ⟨S18432x3584, .f32⟩
  | .hbm, ⟨29, _⟩ => ⟨S_, .f32⟩
  | .hbm, ⟨30, _⟩ => ⟨S18432x3584, .f32⟩
  | .hbm, ⟨31, _⟩ => ⟨S18432x3584, .f32⟩
  | .hbm, ⟨32, _⟩ => ⟨S18432x3584, .f32⟩
  | .hbm, ⟨33, _⟩ => ⟨S18432x3584, .f32⟩
  | .hbm, ⟨34, _⟩ => ⟨S18432x3584, .f32⟩
  | .hbm, ⟨35, _⟩ => ⟨S18432x3584, .bf16⟩
  | .hbm, ⟨36, _⟩ => ⟨S4x2048x3584, .f32⟩
  | .hbm, ⟨37, _⟩ => ⟨S18432x3584, .i32⟩
  | .hbm, ⟨38, _⟩ => ⟨S_, .i32⟩
  | .hbm, ⟨39, _⟩ => ⟨S18432x3584, .i32⟩
  | .hbm, ⟨40, _⟩ => ⟨S18432x3584, .i32⟩
  | .hbm, ⟨41, _⟩ => ⟨S_, .i32⟩
  | .hbm, ⟨42, _⟩ => ⟨S18432x3584, .i32⟩
  | .hbm, ⟨43, _⟩ => ⟨S18432x3584, .i1⟩
  | .hbm, ⟨44, _⟩ => ⟨S_, .i32⟩
  | .hbm, ⟨45, _⟩ => ⟨S18432x3584, .i32⟩
  | .hbm, ⟨46, _⟩ => ⟨S18432x3584, .i32⟩
  | .hbm, ⟨47, _⟩ => ⟨S18432x3584, .i32⟩
  | .hbm, ⟨48, _⟩ => ⟨S18432x3584, .bf16⟩
  | .hbm, ⟨49, _⟩ => ⟨S144x128x3584, .bf16⟩
  | .hbm, ⟨50, _⟩ => ⟨S144x3584, .bf16⟩
  | .hbm, ⟨51, _⟩ => ⟨S144x1x3584, .bf16⟩
  | .hbm, ⟨52, _⟩ => ⟨S144x128x3584, .bf16⟩
  | .hbm, ⟨53, _⟩ => ⟨S144x128x3584, .bf16⟩
  | .hbm, ⟨54, _⟩ => ⟨S18432x3584, .bf16⟩
  | .hbm, ⟨55, _⟩ => ⟨S16x3584, .bf16⟩
  | .hbm, ⟨56, _⟩ => ⟨S18432x3584, .f32⟩
  | .hbm, ⟨57, _⟩ => ⟨S16x3584, .bf16⟩
  | .hbm, ⟨58, _⟩ => ⟨S18432x3584, .f32⟩
  | .hbm, ⟨59, _⟩ => ⟨S_, .f32⟩
  | .hbm, ⟨60, _⟩ => ⟨S18432x3584, .f32⟩
  | .hbm, ⟨61, _⟩ => ⟨S18432x3584, .f32⟩
  | .hbm, ⟨62, _⟩ => ⟨S18432x3584, .f32⟩
  | .hbm, ⟨63, _⟩ => ⟨S18432x3584, .f32⟩
  | .hbm, ⟨64, _⟩ => ⟨S18432x3584, .f32⟩
  | .hbm, ⟨65, _⟩ => ⟨S18432x3584, .bf16⟩
  | .hbm, ⟨66, _⟩ => ⟨S4x2048x3584, .f32⟩
  | .hbm, ⟨67, _⟩ => ⟨S4x2048x3584x1, .f32⟩
  | .hbm, ⟨68, _⟩ => ⟨S4x2048x3584x1, .f32⟩
  | .hbm, ⟨69, _⟩ => ⟨S4x2048x3584x2, .f32⟩
  | .hbm, ⟨70, _⟩ => ⟨S4x2048x7168, .f32⟩
  | .hbm, ⟨71, _⟩ => ⟨S4x2048x7168, .bf16⟩
  | _, _ => ⟨S4x2048x18432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_2 : Ref sig .tc := ⟨.hbm, 38, rfl⟩
abbrev main_v27 : Ref sig .tc := ⟨.hbm, 39, rfl⟩
abbrev main_v28 : Ref sig .tc := ⟨.hbm, 40, rfl⟩
abbrev main_c_3 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩

abbrev nD : Nat := 1
abbrev τ : Topo := Topo.v7x

variable {F : FTy → Type} [FloatOps F]
-- ==== Proof.Hand.Mm.lean ====
/- The matrix product's region: what its body leaves at each point of the grid, and the region's proof data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Frame
public import Idealize.ShloMosaic.Lib.Pipeline.BigSepL
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of a core's buffers when a region is entered. -/
abbrev Entry (F : FTy → Type) : Type := (c : Dev nD) → (b : Ref sig .tc) → Buf (Elt F) ((c : Thread nD τ).loc b)

variable (V : Entry F)

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's two conditions: the first and the last of the nine points that share an output block -/

abbrev first1 (i : grid1.Coords) : Prop := (Scalar.cmpi .ne (Scalar.extui (Scalar.cmpi .eq (BitVec.ofNat 32 (i 2).val) 0#32)) 0#32) = 1#1
theorem first1_iff (t : Fin cfg1.N) : first1 (grid1.coords t) ↔ t.val % 9 = 0 := by
  have ht : t.val < 504 := Nat.lt_of_lt_of_eq t.isLt N_1
  have e2 : (grid1.coords t 2).val = t.val / 1 % 9 := Pipeline.Grid.coords_val t 2 (by decide) rfl
  simp only [first1, e2]
  word_cmp
abbrev last1 (i : grid1.Coords) : Prop := k1_cond2 i = 1#1
theorem last1_iff (t : Fin cfg1.N) : last1 (grid1.coords t) ↔ t.val % 9 = 8 := by
  have ht : t.val < 504 := Nat.lt_of_lt_of_eq t.isLt N_1
  have e2 : (grid1.coords t 2).val = t.val / 1 % 9 := Pipeline.Grid.coords_val t 2 (by decide) rfl
  simp only [last1, k1_cond2, e2]
  word_cmp

theorem idle1_2 : ∀ t : Fin cfg1.N, ¬last1 (grid1.coords t) → cfg1.idle 2 (grid1.coords t) = true := by decide +kernel
theorem live1_2 : ∀ t : Fin cfg1.N, last1 (grid1.coords t) → cfg1.idle 2 (grid1.coords t) = false := by decide +kernel
theorem noFlush1_2 (t : Fin cfg1.N) (h : ¬last1 (grid1.coords t)) : (cfg1.win 2).flush t = false := by
  rw [last1_iff] at h
  rw [← Bool.not_eq_true, flush1_2]; exact h

/-! ## The body on any staging buffers -/

theorem pay2_congr {a a' : Vec F S1024x1024 .f32} {b b' : Vec F S1024x2048 .bf16} {d d' : Vec F S2048x1024 .bf16}
    (ha : a = a') (hb : b = b') (hd : d = d') : k1_pay2 a b d = k1_pay2 a' b' d' := by rw [ha, hb, hd]

section Body

variable (c : Dev nD) (i : grid1.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole)
  (x0 : Vec F S1024x2048 .bf16) (x1 : Vec F S2048x1024 .bf16)

/-- At the first of the nine points the accumulator ends at the first product, whatever it held. -/
theorem body_first (hc0 : first1 i) (hc1 : ¬last1 i) (xi2 : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare xi2 ∗ (∃ d, owns (c : Thread nD τ) arg6 fullShare d)
        ∗ (iprop(owns (c : Thread nD τ) arg3 fullShare x0 ∗ owns (c : Thread nD τ) arg4 fullShare x1 ∗ owns (c : Thread nD τ) arg5 fullShare xi2 ∗ owns (c : Thread nD τ) arg6 fullShare (k1_pay2 (k1_pay1 (F := F)) x0 x1)) -∗ K ⟨⟩))
      ⊢ wp frame (wpE (defs₀ (F := F)) Variants.none c none) E (cc1_matmul i arg3 harg3 arg4 harg4 arg5 harg5 arg6 harg6) K := by
  simp only [cc1_matmul_eq_skeleton]; unfold cc1_matmul_skel
  unfold owns
  iintro ⟨⟨%f0, %hf0, H0⟩, ⟨%f1, %hf1, H1⟩, ⟨%f2, %hf2, H2⟩, ⟨%ds0, %fs0, -, HS0⟩, Hk⟩
  obtain rfl := harg3.eq_unread hf0; obtain rfl := harg4.eq_unread hf1; obtain rfl := harg5.eq_unread hf2
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS0
  ipureintro
  exact (View.read_writes_full (s := S1024x1024) _ _ _ _ _).trans (pay2_congr (View.readCov_full (s := S1024x1024) _ _ _ _ _)
    ((View.readAt_full (s := S1024x2048) _ _ _).trans (harg3.read_unread _)) ((View.readAt_full (s := S2048x1024) _ _ _).trans (harg4.read_unread _)))

/-- At a point that is neither the first nor the last the product is added to the accumulator. -/
theorem body_mid (hc0 : ¬first1 i) (hc1 : ¬last1 i) (xs0 : Vec F S1024x1024 .f32) (xi2 : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare xi2 ∗ owns (c : Thread nD τ) arg6 fullShare xs0
        ∗ (iprop(owns (c : Thread nD τ) arg3 fullShare x0 ∗ owns (c : Thread nD τ) arg4 fullShare x1 ∗ owns (c : Thread nD τ) arg5 fullShare xi2 ∗ owns (c : Thread nD τ) arg6 fullShare (k1_pay2 xs0 x0 x1)) -∗ K ⟨⟩))
      ⊢ wp frame (wpE (defs₀ (F := F)) Variants.none c none) E (cc1_matmul i arg3 harg3 arg4 harg4 arg5 harg5 arg6 harg6) K := by
  simp only [cc1_matmul_eq_skeleton]; unfold cc1_matmul_skel
  unfold owns
  iintro ⟨⟨%f0, %hf0, H0⟩, ⟨%f1, %hf1, H1⟩, ⟨%f2, %hf2, H2⟩, ⟨%fs0, %hfs0, HS0⟩, Hk⟩
  obtain rfl := harg3.eq_unread hf0; obtain rfl := harg4.eq_unread hf1; obtain rfl := harg5.eq_unread hf2; obtain rfl := harg6.eq_unread hfs0
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS0
  ipureintro
  exact (View.read_writes_full (s := S1024x1024) _ _ _ _ _).trans (pay2_congr ((View.readAt_full (s := S1024x1024) _ _ _).trans (harg6.read_unread _))
    ((View.readAt_full (s := S1024x2048) _ _ _).trans (harg3.read_unread _)) ((View.readAt_full (s := S2048x1024) _ _ _).trans (harg4.read_unread _)))

/-- At the last of the nine points the accumulator, rounded, is also stored into the output's buffer. -/
theorem body_last (hc0 : ¬first1 i) (hc1 : last1 i) (xs0 : Vec F S1024x1024 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs0
        ∗ (iprop(owns (c : Thread nD τ) arg3 fullShare x0 ∗ owns (c : Thread nD τ) arg4 fullShare x1 ∗ owns (c : Thread nD τ) arg5 fullShare (k1_pay3 (k1_pay2 xs0 x0 x1)) ∗ owns (c : Thread nD τ) arg6 fullShare (k1_pay2 xs0 x0 x1)) -∗ K ⟨⟩))
      ⊢ wp frame (wpE (defs₀ (F := F)) Variants.none c none) E (cc1_matmul i arg3 harg3 arg4 harg4 arg5 harg5 arg6 harg6) K := by
  simp only [cc1_matmul_eq_skeleton]; unfold cc1_matmul_skel
  unfold owns
  iintro ⟨⟨%f0, %hf0, H0⟩, ⟨%f1, %hf1, H1⟩, ⟨%d2, %f2, -, H2⟩, ⟨%fs0, %hfs0, HS0⟩, Hk⟩
  obtain rfl := harg3.eq_unread hf0; obtain rfl := harg4.eq_unread hf1; obtain rfl := harg6.eq_unread hfs0
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    exact (View.read_writes_full (s := S1024x1024) _ _ _ _ _).trans (congrArg k1_pay3 ((View.readCov_full (s := S1024x1024) _ _ _ _ _).trans (pay2_congr ((View.readAt_full (s := S1024x1024) _ _ _).trans (harg6.read_unread _))
      ((View.readAt_full (s := S1024x2048) _ _ _).trans (harg3.read_unread _)) ((View.readAt_full (s := S2048x1024) _ _ _).trans (harg4.read_unread _)))))
  iexists _; isplitr
  swap; · iexact HS0
  ipureintro
  exact (View.read_writes_full (s := S1024x1024) _ _ _ _ _).trans (pay2_congr ((View.readAt_full (s := S1024x1024) _ _ _).trans (harg6.read_unread _))
    ((View.readAt_full (s := S1024x2048) _ _ _).trans (harg3.read_unread _)) ((View.readAt_full (s := S2048x1024) _ _ _).trans (harg4.read_unread _)))

end Body

/-! ## What the accumulator holds after each point -/

/-- The accumulator after point `n`: started anew at every ninth point, one product added at each. -/
def acc1 (c : Dev nD) : (n : ℕ) → n < cfg1.N → Vec F S1024x1024 .f32
  | 0, h => k1_pay2 (k1_pay1 (F := F)) (iblk1 V c 0 ⟨0, h⟩) (iblk1 V c 1 ⟨0, h⟩)
  | n + 1, h => k1_pay2 (if (n + 1) % 9 = 0 then k1_pay1 (F := F) else acc1 c n (Nat.lt_of_succ_lt h)) (iblk1 V c 0 ⟨n + 1, h⟩) (iblk1 V c 1 ⟨n + 1, h⟩)

theorem acc1_first (c : Dev nD) (t : Fin cfg1.N) (h : t.val % 9 = 0) :
    acc1 V c t.val t.isLt = k1_pay2 (k1_pay1 (F := F)) (iblk1 V c 0 t) (iblk1 V c 1 t) := by
  obtain ⟨n, hn⟩ := t
  cases n with
  | zero => rfl
  | succ n => simp only [acc1]; rw [if_pos h]

theorem acc1_next (c : Dev nD) (t : Fin cfg1.N) (h : ¬t.val % 9 = 0) :
    acc1 V c t.val t.isLt = k1_pay2 (acc1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h
  | succ n => simp only [acc1]; rw [if_neg h]; rfl

/-! ## The region's proof data -/

/-- The accumulator's buffer. -/
abbrev accM : Memref sig .tc .vmem S1024x1024 .f32 := Memref.whole cc1_scratch0

/-- The other region's staging buffers, at whatever they hold. -/
def others1 (c : Dev nD) : sProp 𝕄 :=
  bigSepL [cc0_stg0_0, cc0_stg0_1, cc0_stg1_0, cc0_stg1_1, cc0_stg2_0, cc0_stg2_1, cc0_stg3_0, cc0_stg3_1, cc0_stg4_0, cc0_stg4_1, cc0_stg5_0, cc0_stg5_1, cc0_stg6_0, cc0_stg6_1]
    fun b => iprop(∃ f : Buf (Elt F) ((c : Thread nD τ).loc b), ((c : Thread nD τ).loc b) ↦{fullShare} f)

theorem PhiA1_eq (c : Dev nD) :
    (Pipeline.ΦA spec1 c : sProp 𝕄) = iprop((others1 c ∗ (∃ d, owns (c : Thread nD τ) accM fullShare d)) ∗ (∃ r, prngReg c r)) := by
  unfold Pipeline.ΦA
  rw [Pipeline.scopedRest_eq_of_list spec1 c ([cc0_stg0_0, cc0_stg0_1, cc0_stg1_0, cc0_stg1_1, cc0_stg2_0, cc0_stg2_1, cc0_stg3_0, cc0_stg3_1, cc0_stg4_0, cc0_stg4_1, cc0_stg5_0, cc0_stg5_1, cc0_stg6_0, cc0_stg6_1] ++ [cc1_scratch0]) (by decide) (by decide),
    bigSepL_append]
  simp only [accM, owns_whole]
  rfl

/-- The region's invariant before position `n`: after a point the accumulator's contents are known. -/
def Phi1 (c : Dev nD) : (n : ℕ) → n ≤ cfg1.N → sProp 𝕄
  | 0, _ => Pipeline.ΦA spec1 c
  | n + 1, hn => iprop((others1 c ∗ owns (c : Thread nD τ) accM fullShare (acc1 V c n hn)) ∗ (∃ r, prngReg c r))

theorem Phi1_pos (c : Dev nD) (n : ℕ) (h : n ≤ cfg1.N) (hz : n ≠ 0) :
    Phi1 V c n h = iprop((others1 c ∗ owns (c : Thread nD τ) accM fullShare (acc1 V c (n - 1) (by omega))) ∗ (∃ r, prngReg c r)) := by
  cases n with
  | zero => exact absurd rfl hz
  | succ n => rfl

/-- The invariant at any position, with the accumulator's contents forgotten. -/
theorem Phi1_any (c : Dev nD) (n : ℕ) (h : n ≤ cfg1.N) : Phi1 V c n h ⊢ Pipeline.ΦA spec1 c := by
  cases n with
  | zero => exact .rfl
  | succ n =>
    rw [PhiA1_eq]; unfold Phi1
    iintro ⟨⟨Ho, HS⟩, Hg⟩
    isplitl [Ho HS]
    · isplitl [Ho]; · iexact Ho
      iexists _; iexact HS
    iexact Hg

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
  Φ t := Phi1 V c t.val (Nat.le_of_lt_succ t.isLt)
  q _ := fullShare
  owed _ := 0

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (acc1 V c t.val t.isLt) := by dsimp only [dat1]

/-- Before the body the inputs' staging buffers hold their blocks. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; rfl) t d).trans rfl

/-! ## The body at a point of the grid -/

def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def post1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

set_option maxHeartbeats 1600000 in
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1]
  rw [show (dat1 V c).owesAt () t.succ = (dat1 V c).owesAt () t.castSucc from rfl]
  rw [show (dat1 V c).Φ t.succ = iprop((others1 c ∗ owns (c : Thread nD τ) accM fullShare (acc1 V c t.val t.isLt)) ∗ (∃ r, prngReg c r)) from rfl]
  rw [show (dat1 V c).Φ t.castSucc = Phi1 V c t.val (Nat.le_of_lt t.isLt) from rfl]
  rw [show (dat1 V c).leavesExact 0 t = owns (c : Thread nD τ) (st1_0 t) fullShare (iblk1 V c 0 t) from rfl]
  rw [show (dat1 V c).leavesExact 1 t = owns (c : Thread nD τ) (st1_1 t) fullShare (iblk1 V c 1 t) from rfl]
  by_cases h0 : t.val % 9 = 0
  · have h1 : ¬last1 (grid1.coords t) := fun h => by have := (last1_iff t).mp h; omega
    rw [Dat.leavesExact_idle (dat1 V c) 2 t (idle1_2 t h1) (noFlush1_2 t h1), acc1_first V c t h0]
    refine (sep_mono (Phi1_any V c _ _) .rfl).trans ?_
    rw [PhiA1_eq]
    iintro ⟨⟨⟨Hr, HS⟩, Hg⟩, Ho, ⟨%d0, H0⟩, ⟨%d1, H1⟩, ⟨%d2, H2⟩⟩
    iapply (body_first c (grid1.coords t) _ _ _ _ _ _ _ _ (iblk1 V c 0 t) (iblk1 V c 1 t) ((first1_iff t).mpr h0) h1 _ Set.univ _)
    isplitl [H0]; · iexact H0
    isplitl [H1]; · iexact H1
    isplitl [H2]; · iexact H2
    isplitl [HS]; · iexact HS
    iintro ⟨H0, H1, H2, HS⟩
    isplitl [HS Hg Hr]
    · isplitl [HS Hr]
      · isplitl [Hr]; · iexact Hr
        iexact HS
      iexact Hg
    isplitl [Ho]; · iexact Ho
    isplitl [H0]; · iexact H0
    isplitl [H1]; · iexact H1
    iexists _; iexact H2
  · have hz : t.val ≠ 0 := fun h => h0 (by omega)
    have hn0 : ¬first1 (grid1.coords t) := fun h => h0 ((first1_iff t).mp h)
    rw [Phi1_pos V c _ _ hz, acc1_next V c t h0]
    by_cases h1 : t.val % 9 = 8
    · rw [show (dat1 V c).leavesExact 2 t = owns (c : Thread nD τ) (st1_2 t) fullShare ((dat1 V c).after 2 t) from by
        unfold Dat.leavesExact; rw [live1_2 t ((last1_iff t).mpr h1)], after1_2, acc1_next V c t h0]
      iintro ⟨⟨⟨Hr, HS⟩, Hg⟩, Ho, ⟨%d0, H0⟩, ⟨%d1, H1⟩, ⟨%d2, H2⟩⟩
      iapply (body_last c (grid1.coords t) _ _ _ _ _ _ _ _ (iblk1 V c 0 t) (iblk1 V c 1 t) hn0 ((last1_iff t).mpr h1) _ Set.univ _)
      isplitl [H0]; · iexact H0
      isplitl [H1]; · iexact H1
      isplitl [H2]; · iexists _; iexact H2
      isplitl [HS]; · iexact HS
      iintro ⟨H0, H1, H2, HS⟩
      isplitl [HS Hg Hr]
      · isplitl [HS Hr]
        · isplitl [Hr]; · iexact Hr
          iexact HS
        iexact Hg
      isplitl [Ho]; · iexact Ho
      isplitl [H0]; · iexact H0
      isplitl [H1]; · iexact H1
      iexact H2
    · have hn1 : ¬last1 (grid1.coords t) := fun h => h1 ((last1_iff t).mp h)
      rw [Dat.leavesExact_idle (dat1 V c) 2 t (idle1_2 t hn1) (noFlush1_2 t hn1)]
      iintro ⟨⟨⟨Hr, HS⟩, Hg⟩, Ho, ⟨%d0, H0⟩, ⟨%d1, H1⟩, ⟨%d2, H2⟩⟩
      iapply (body_mid c (grid1.coords t) _ _ _ _ _ _ _ _ (iblk1 V c 0 t) (iblk1 V c 1 t) hn0 hn1 _ _ Set.univ _)
      isplitl [H0]; · iexact H0
      isplitl [H1]; · iexact H1
      isplitl [H2]; · iexact H2
      isplitl [HS]; · iexact HS
      iintro ⟨H0, H1, H2, HS⟩
      isplitl [HS Hg Hr]
      · isplitl [HS Hr]
        · isplitl [Hr]; · iexact Hr
          iexact HS
        iexact Hg
      isplitl [Ho]; · iexact Ho
      isplitl [H0]; · iexact H0
      isplitl [H1]; · iexact H1
      iexists _; iexact H2

theorem row1 (t : Fin cfg1.N) : defs₀ (F := F) .tc cfg1.body (cfg1.bodyArgs t (cfg1.slots t)) = bodyAt1 t := by
  unfold defs₀; rw [Defs.onTc_tc]

theorem obligation1 (c : Dev nD) : BodyObligation (dat1 V c) (defs₀ (F := F)) Variants.none () Set.univ := fun t => by
  rw [bigSep_W1, bigSep_W1, row1]
  exact triple_restated (sound1 V c t) rfl .rfl fun _ => .rfl

theorem hout1 (c : Dev nD) : (dat1 V c).Φ (Fin.last cfg1.N) ⊢ Pipeline.ΦA spec1 c :=
  Phi1_any V c (Fin.last cfg1.N).val (Nat.le_of_lt_succ (Fin.last cfg1.N).isLt)

end Cert.KernelIdeal.Hand

end
-- ==== Proof.Hand.Form.lean ====
/- The weight's region: what its body leaves at each point of the grid, and the region's proof data. -/
module

public import proofs.«01_k».proof.Proof.Hand.Mm
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Frame
public import Idealize.ShloMosaic.Lib.Pipeline.BigSepL
public import Idealize.ShloMosaic.Lib.VecWindow
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One tile of the weight: 32 rows by 128 columns

Tile `i` of the 256 is written `i`-th. Its rows start at `row0 i`, its columns at `col0 i`; its packed codes are the block of
the codes at the same rows and at columns `code0 i`, of whose 128 columns it unpacks the half `(i / 4) % 2`; its scales are the
row `i / 32` of the scales at its columns. -/

def row0 (i : ℕ) : ℕ := 128 * (i / 32) + 32 * (i % 4)
def col0 (i : ℕ) : ℕ := 128 * (i / 4 % 8)
def code0 (i : ℕ) : ℕ := 128 * (i / 4 % 8 / 2)

theorem row0_lt {i : ℕ} (h : i < 256) : row0 i + 32 ≤ 1024 := by unfold row0; omega
theorem col0_lt (i : ℕ) : col0 i + 128 ≤ 1024 := by unfold col0; omega
theorem code0_lt (i : ℕ) : code0 i + 128 ≤ 512 := by unfold code0; omega

theorem inbOut (i : Fin 256) : ∀ a, (![row0 i.val, col0 i.val] : Fin 2 → ℕ) a + S32x128.size a ≤ S1024x1024.size a := by
  intro a; match a with
  | ⟨0, _⟩ => exact row0_lt i.isLt
  | ⟨1, _⟩ => exact col0_lt i.val
theorem inbCode (i : Fin 256) : ∀ a, (![row0 i.val, code0 i.val] : Fin 2 → ℕ) a + S32x128.size a ≤ S1024x512.size a := by
  intro a; match a with
  | ⟨0, _⟩ => exact row0_lt i.isLt
  | ⟨1, _⟩ => exact code0_lt i.val
theorem inbScale (i : Fin 256) : ∀ a, (![i.val / 32, 0, col0 i.val] : Fin 3 → ℕ) a + S1x1x128.size a ≤ S8x1x1024.size a := by
  intro a; match a with
  | ⟨0, _⟩ => show i.val / 32 + 1 ≤ 8; omega
  | ⟨1, _⟩ => show 0 + 1 ≤ 1; omega
  | ⟨2, _⟩ => exact col0_lt i.val
theorem slicesOut (i : Fin 256) : S1024x1024.Slices ![row0 i.val, col0 i.val] S32x128 := ⟨rfl, inbOut i⟩

/-- The low-rank term of a whole block. -/
def delta (x2 : Vec F S1024x16 .bf16) (x3 : Vec F S16x1024 .bf16) (x4 : Vec F S1024x16 .bf16) (x5 : Vec F S16x1024 .bf16) : FVec F S1024x1024 .f32 :=
  k0_pay1 (View.ld x2 (Rect.unit (s := S1024x16) ![0, 0] S1024x16.size inb_S1024x16_S1024x16_0_0))
    (View.ld x3 (Rect.unit (s := S16x1024) ![0, 0] S16x1024.size inb_S16x1024_S16x1024_0_0))
    (View.ld x4 (Rect.unit (s := S1024x16) ![0, 0] S1024x16.size inb_S1024x16_S1024x16_0_0))
    (View.ld x5 (Rect.unit (s := S16x1024) ![0, 0] S16x1024.size inb_S16x1024_S16x1024_0_0))

/-- The lane each lane of a tile reads its word from: half the lane, in the tile's half of the block of codes. -/
def laneOf (half : BitVec 32) : IVec S8x128 32 :=
  have a : IVec S8x128 32 := addi (shrui (iota .tc S8x128 32 [1] iota_S8x128_d1_w32) (broadcast S8x128 1#32)) (broadcast S8x128 half)
  select (cmpi .slt a (broadcast S8x128 0#32)) (addi a (broadcast S8x128 128#32)) a

/-- How far each lane shifts its word: four bits on even lanes, none on odd ones. -/
def shiftOf : IVec S8x128 32 :=
  select (cmpi .eq (andi (iota .tc S8x128 32 [1] iota_S8x128_d1_w32) (broadcast S8x128 1#32)) (broadcast S8x128 0#32)) (broadcast S8x128 4#32) (broadcast S8x128 0#32)

/-- A block of packed codes unpacked: sixteen times the code, as bytes. -/
def unpack (half : BitVec 32) (by' : Vec F S32x128 .i8) : IVec S32x128 8 :=
  bitcast S32x128 8
    (andi (shli (dynamicGather 1 (bitcast S8x128 32 by' bitcasts_S32x128_w8_S8x128_w32)
        (shapeCast S8x128 (shapeCast S8x128x1 (laneOf half) shapeCasts_S8x128_S8x128x1) shapeCasts_S8x128x1_S8x128)) shiftOf)
      (broadcast S8x128 4042322160#32))
    bitcasts_S8x128_w32_S32x128_w8

/-- What is stored as tile `i`. -/
def tile (x0 : Vec F S1024x512 .i8) (x1 : Vec F S8x1x1024 .bf16) (D : FVec F S1024x1024 .f32) (i : Fin 256) : FVec F S32x128 .bf16 :=
  truncf .bf16
    (addf
      (extf .f32
        (mulf (mulf (sitofp .bf16 (unpack (F := F) (BitVec.ofNat 32 (64 * (i.val / 4 % 8 % 2)))
              (View.ld x0 (Rect.unit (s := S1024x512) ![row0 i.val, code0 i.val] S32x128.size (inbCode i)))))
            (broadcast S32x128 (Scalar.ofBits .bf16 0x3D80#16 : F .bf16)))
          (broadcastTo S32x128
            (shapeCast S1x128 (View.ld x1 (Rect.unit (s := S8x1x1024) ![i.val / 32, 0, col0 i.val] S1x1x128.size (inbScale i))) shapeCasts_S1x1x128_S1x128)
            broadcasts_S1x128_S32x128)) bitsLt_bf16_f32)
      (extractStridedSlice S32x128 ![row0 i.val, col0 i.val] D (slicesOut i))) bitsLt_bf16_f32

/-- The 256 stores of a block, the last first. -/
def tiles (x0 : Vec F S1024x512 .i8) (x1 : Vec F S8x1x1024 .bf16) (D : FVec F S1024x1024 .f32) : List (View.Piece (Elt F) S1024x1024 .bf16) :=
  View.tilePieces (NT := 256) (s := S1024x1024) S32x128.size (fun i => ![row0 i.val, col0 i.val]) inbOut (tile x0 x1 D) 256 (Nat.le_refl _)

theorem mem_tilePieces {Val : EltTy → Type} {s : Shape} {e : EltTy} {NT : ℕ} (tsz : Fin s.rank → ℕ) (off : Fin NT → Fin s.rank → ℕ)
    (inb : ∀ i a, off i a + tsz a ≤ s.size a) (P : Fin NT → (⟨s.rank, tsz⟩ : Shape).Idx → Val e) (p : View.Piece Val s e) :
    ∀ (j : ℕ) (hj : j ≤ NT), p ∈ View.tilePieces tsz off inb P j hj ↔ ∃ i : Fin NT, i.val < j ∧ p = ⟨Rect.unit (off i) tsz (inb i), P i⟩
  | 0, _ => by simp [View.tilePieces]
  | j + 1, hj => by
    rw [View.tilePieces_succ, List.mem_cons, mem_tilePieces tsz off inb P p j (Nat.le_of_succ_le hj)]
    constructor
    · rintro (h | ⟨i, hi, h⟩)
      · exact ⟨⟨j, hj⟩, Nat.lt_succ_self j, h⟩
      · exact ⟨i, Nat.lt_succ_of_lt hi, h⟩
    · rintro ⟨i, hi, h⟩
      rcases Nat.lt_succ_iff_lt_or_eq.mp hi with h' | h'
      · exact .inr ⟨i, h', h⟩
      · exact .inl (by subst h'; exact h)

/-- The tile an index of the block lies in. -/
def tileOf (y : S1024x1024.Idx) : Fin 256 :=
  ⟨32 * ((y 0).val / 128) + 4 * ((y 1).val / 128) + (y 0).val / 32 % 4, by
    have h0 : (y 0).val < 1024 := (y 0).isLt
    have h1 : (y 1).val < 1024 := (y 1).isLt
    omega⟩

theorem row0_tileOf (y : S1024x1024.Idx) : row0 (tileOf y).val = 32 * ((y 0).val / 32) := by
  have h0 : (y 0).val < 1024 := (y 0).isLt
  have h1 : (y 1).val < 1024 := (y 1).isLt
  unfold row0 tileOf; dsimp only; omega
theorem col0_tileOf (y : S1024x1024.Idx) : col0 (tileOf y).val = 128 * ((y 1).val / 128) := by
  have h0 : (y 0).val < 1024 := (y 0).isLt
  have h1 : (y 1).val < 1024 := (y 1).isLt
  unfold col0 tileOf; dsimp only; omega

/-- The 256 tiles cover the block. -/
theorem cover_tiles (x0 : Vec F S1024x512 .i8) (x1 : Vec F S8x1x1024 .bf16) (D : FVec F S1024x1024 .f32) (y : S1024x1024.Idx) :
    ∃ p ∈ tiles x0 x1 D, y ∈ p.1.set := by
  refine ⟨⟨Rect.unit (s := S1024x1024) ![row0 (tileOf y).val, col0 (tileOf y).val] S32x128.size (inbOut (tileOf y)), tile x0 x1 D (tileOf y)⟩,
    (mem_tilePieces _ _ _ _ _ _ _).mpr ⟨tileOf y, (tileOf y).isLt, rfl⟩, (Rect.mem_set_unit (inb := inbOut (tileOf y))).mpr fun a => ?_⟩
  match a with
  | ⟨0, _⟩ =>
    show row0 (tileOf y).val ≤ (y 0).val ∧ (y 0).val < row0 (tileOf y).val + 32
    rw [row0_tileOf]; omega
  | ⟨1, _⟩ =>
    show col0 (tileOf y).val ≤ (y 1).val ∧ (y 1).val < col0 (tileOf y).val + 128
    rw [col0_tileOf]; omega

/-- The block the body leaves, from the blocks it reads. -/
def out0 (x0 : Vec F S1024x512 .i8) (x1 : Vec F S8x1x1024 .bf16) (x2 : Vec F S1024x16 .bf16) (x3 : Vec F S16x1024 .bf16) (x4 : Vec F S1024x16 .bf16) (x5 : Vec F S16x1024 .bf16) : Vec F S1024x1024 .bf16 :=
  View.canon (tiles x0 x1 (delta x2 x3 x4 x5))

/-! ## The body on any staging buffers -/

set_option maxHeartbeats 6000000 in
theorem body_form (c : Dev nD) (E : Set ℕ) (i : grid0.Coords) (arg2 : Memref sig .tc .vmem S1024x512 .i8) (harg2 : arg2.IsWhole) (arg3 : Memref sig .tc .vmem S8x1x1024 .bf16) (harg3 : arg3.IsWhole) (arg4 : Memref sig .tc .vmem S1024x16 .bf16) (harg4 : arg4.IsWhole) (arg5 : Memref sig .tc .vmem S16x1024 .bf16) (harg5 : arg5.IsWhole) (arg6 : Memref sig .tc .vmem S1024x16 .bf16) (harg6 : arg6.IsWhole) (arg7 : Memref sig .tc .vmem S16x1024 .bf16) (harg7 : arg7.IsWhole) (arg8 : Memref sig .tc .vmem S1024x1024 .bf16) (harg8 : arg8.IsWhole)
    (x0 : Vec F S1024x512 .i8) (x1 : Vec F S8x1x1024 .bf16) (x2 : Vec F S1024x16 .bf16) (x3 : Vec F S16x1024 .bf16) (x4 : Vec F S1024x16 .bf16) (x5 : Vec F S16x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out0 x0 x1 x2 x3 x4 x5)) -∗ K ⟨⟩))
      ⊢ wp frame (wpE (defs₀ (F := F)) Variants.none c none) E (cc0_form_w i arg2 harg2 arg3 harg3 arg4 harg4 arg5 harg5 arg6 harg6 arg7 harg7 arg8 harg8) K := by
  simp only [cc0_form_w_eq_skeleton]; unfold cc0_form_w_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  have key : ∀ L : List (View.Piece (Elt F) S1024x1024 .bf16),
      L = tiles (arg2.view.read (Elt F) f0) (arg3.view.read (Elt F) f1) (delta (arg4.view.read (Elt F) f2) (arg5.view.read (Elt F) f3) (arg6.view.read (Elt F) f4) (arg7.view.read (Elt F) f5)) →
      arg8.view.read (Elt F) (arg8.view.writes (Elt F) f6 L) = out0 (arg2.view.read (Elt F) f0) (arg3.view.read (Elt F) f1) (arg4.view.read (Elt F) f2) (arg5.view.read (Elt F) f3) (arg6.view.read (Elt F) f4) (arg7.view.read (Elt F) f5) := by
    rintro L rfl
    exact View.read_writes_eq_canon _ _ _ (cover_tiles _ _ _)
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact key _ (by sl_kernel_rfl)

/-! ## The region's proof data -/

variable (V : Entry F)

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0 (iblk0 V c 0 t) (iblk0 V c 1 t) (iblk0 V c 2 t) (iblk0 V c 3 t) (iblk0 V c 4 t) (iblk0 V c 5 t) := by dsimp only [dat0]

/-- Before the body the inputs' staging buffers hold their blocks. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; rfl) t d).trans rfl

/-! ## The body at a point of the grid -/

def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_form c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row_0 (t : Fin cfg0.N) : defs₀ (F := F) .tc cfg0.body (cfg0.bodyArgs t (cfg0.slots t)) = bodyAt0 t := by
  unfold defs₀; rw [Defs.onTc_tc]

theorem obligation0 (c : Dev nD) : BodyObligation (dat0 V c) (defs₀ (F := F)) Variants.none () Set.univ := fun t => by
  rw [bigSep_W0, bigSep_W0, row_0]
  exact triple_restated (sound0 V c t) rfl .rfl fun _ => .rfl

end Cert.KernelIdeal.Hand
-- ==== Proof.Hand.Asm.lean ====
/- The two regions put together: what every buffer holds when the program has run. -/
module

public import proofs.«01_k».proof.Proof.Hand.Form
public import proofs.«01_k».proof.Proof.Gen.KernelIdeal.Regions
public import Idealize.ShloMosaic.Lib.Pipeline.RegionArraysS

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents between the regions -/

/-- What the weight's region is entered with. -/
abbrev ent0 : Entry F := fun c b => V1 m c (Proc.devRef .tc b)
/-- The buffers after the weight's region. -/
def W2 (c : Dev nD) : Valuation τ sig (Elt F) := Pipeline.afterRegion (dat0 (ent0 m) c) (V1 m c)
/-- What the matrix product's region is entered with. -/
abbrev ent1 : Entry F := fun c b => W2 m c (Proc.devRef .tc b)
/-- The buffers after the matrix product's region. -/
def W3 (c : Dev nD) : Valuation τ sig (Elt F) := Pipeline.afterRegion (dat1 (ent1 m) c) (W2 m c)
/-- The buffers at the end. -/
def W4 (c : Dev nD) : Valuation τ sig (Elt F) := StableHlo.after hostOps2 (W3 m c)

/-- The two regions' proof data. -/
def pdats : (p : Fin 2) → (c : Dev nD) → Dat τ (Elt F) Unit ℕ (UR sig nD τ) ℕ (cfgs p) c
  | 0 => dat0 (ent0 m)
  | 1 => dat1 (ent1 m)

/-! ## The regions' records -/

abbrev Lt : GSem nD τ sig → Finset Unit := fun g => if g.1.2 = .tc then {()} else ∅
abbrev lvt : GSem nD τ sig → Unit → ℕ := fun _ _ => 0
/-- What rides beside the buffers: nothing owed, and the generator register. -/
def rest (c : Dev nD) : sProp 𝕄 :=
  iprop((∃ Wd, owes (c : Thread nD τ) (0 : CellTallies nD τ sig Unit) Wd) ∗ (∃ r, prngReg c r) ∗ emp)

def reg0 : RegionSeg (pcfgs (F := F)) adm (pdats m) () defs₀ Variants.none Lt lvt 0 :=
  RegionSeg.ofHeldIn (pcfgs (F := F)) adm (pdats m) () defs₀ Variants.none Lt lvt 0 (fun _ => 0) (Pipeline.ucRefs τ sig)
    (fun c => iprop(∃ r, prngReg c r)) (fun c => iprop(∃ r, prngReg c r)) launch0.toP rfl
    (fun c => (obligation0 (ent0 m) c).loose) (fun _ _ => rfl) (fun _ => rfl) (fun c => (dat0 (ent0 m) c).share_full fun _ => rfl)
    (fun c => .rfl) (fun c => .rfl) (fun _ => 0)
    ⟨fun c w s => by simp [Lt], fun _ _ _ => Nat.le_refl _, fun _ _ _ h => absurd h (Nat.lt_irrefl 0)⟩
    (fun _ => iprop(emp)) (V1 m) (fun _ _ => rfl)

def reg1 : RegionSeg (pcfgs (F := F)) adm (pdats m) () defs₀ Variants.none Lt lvt 1 :=
  RegionSeg.ofHeldIn (pcfgs (F := F)) adm (pdats m) () defs₀ Variants.none Lt lvt 1 (fun _ => 0) (Pipeline.ucRefs τ sig)
    (fun c => iprop(∃ r, prngReg c r)) (fun c => iprop(∃ r, prngReg c r)) launch1.toP rfl
    (fun c => (obligation1 (ent1 m) c).loose) (fun _ _ => rfl) (fun _ => rfl) (fun c => (dat1 (ent1 m) c).share_full fun _ => rfl)
    (fun c => .rfl) (fun c => hout1 (ent1 m) c) (fun _ => 0)
    ⟨fun c w s => by simp [Lt], fun _ _ _ => Nat.le_refl _, fun _ _ _ h => absurd h (Nat.lt_irrefl 0)⟩
    (fun _ => iprop(emp)) (W2 m) (fun _ _ => rfl)

theorem arrs0_sub : Pipeline.arrRefs (τ := τ) (pcfgs (F := F) 0).spec ⊆ Pipeline.ucRefs τ sig :=
  show Pipeline.arrRefs (τ := τ) spec0 ⊆ Pipeline.ucRefs τ sig by decide
theorem arrs1_sub : Pipeline.arrRefs (τ := τ) (pcfgs (F := F) 1).spec ⊆ Pipeline.ucRefs τ sig :=
  show Pipeline.arrRefs (τ := τ) spec1 ⊆ Pipeline.ucRefs τ sig by decide

theorem reg0_pre (c : Dev nD) : iprop(StableHlo.held (c : Thread nD τ) (Pipeline.ucRefs τ sig) (V1 m c) ∗ rest c) ⊢ (reg0 m).pre c := by
  unfold reg0 rest
  exact RegionSeg.ofHeldIn_pre (p := 0) (D := fun _ => 0) (X := fun c => iprop(∃ r, prngReg c r)) (R := fun _ => iprop(emp)) (W := V1 m) arrs0_sub c
theorem reg0_post (c : Dev nD) : (reg0 m).post c ⊢ iprop(StableHlo.held (c : Thread nD τ) (Pipeline.ucRefs τ sig) (W2 m c) ∗ rest c) := by
  rw [show W2 m c = Pipeline.afterRegion (pdats m 0 c) (V1 m c) from rfl]
  unfold reg0 rest
  exact RegionSeg.ofHeldIn_post (p := 0) arrs0_sub c
theorem reg1_pre (c : Dev nD) : iprop(StableHlo.held (c : Thread nD τ) (Pipeline.ucRefs τ sig) (W2 m c) ∗ rest c) ⊢ (reg1 m).pre c := by
  unfold reg1 rest
  exact RegionSeg.ofHeldIn_pre (p := 1) (D := fun _ => 0) (X := fun c => iprop(∃ r, prngReg c r)) (R := fun _ => iprop(emp)) (W := W2 m) arrs1_sub c
theorem reg1_post (c : Dev nD) : (reg1 m).post c ⊢ iprop(StableHlo.held (c : Thread nD τ) (Pipeline.ucRefs τ sig) (W3 m c) ∗ rest c) := by
  rw [show W3 m c = Pipeline.afterRegion (pdats m 1 c) (W2 m c) from rfl]
  unfold reg1 rest
  exact RegionSeg.ofHeldIn_post (p := 1) arrs1_sub c

/-! ## The run -/

/-- The host's stretch after the two regions. -/
def hseg3 : HostSeg (Ix := Unit) (Name := ℕ) (U := UR sig nD τ) (Lvl := ℕ) (pcfgs (F := F)) defs₀ Variants.none Lt lvt :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) rest

abbrev items : List (Seg (pcfgs (F := F)) adm (pdats m) () defs₀ Variants.none Lt lvt) :=
  [.host (seg0 m Variants.none Lt lvt (fun _ => rest)), .region (reg0 m), .region (reg1 m), .host (hseg3 m)]

variable (ρ : Dev nD → PrngReg)

set_option backward.isDefEq.respectTransparency.types false in
/-- The program runs to the end, every counter at zero and every buffer holding what `W4` says. -/
theorem run : θ_run defs (onTc (τ := τ) (main (F := F))) ⟨m, fun _ => 0, ρ⟩ (fun r =>
    (∀ c : Dev nD, ∀ b ∈ Pipeline.ucRefs τ sig, r.2.mem ((c.tc : Thread nD τ).1, b) = W4 m c b) ∧ r.2.sem = fun _ => 0) := by
  refine Pipeline.θ_run_regions_kit_dev_sems (pcfgs (F := F)) adm (pdats m) () cellOf_inj emb₁ defs₀ Variants.none Lt lvt m ρ main
    (fun _ => items m)
    (fun c Q => by
      rewrite [main_chain c, Seg.run_eq_chain,
        show (items m).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide) 0 (fun g h => if_neg h)
    (fun _ => iprop(emp)) (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (W4 m c))
    (hch := fun c => ⟨.rfl, reg0_pre m c, (reg0_post m c).trans (reg1_pre m c), reg1_post m c,
      sep_mono .rfl (show rest c ⊢ iprop(∃ W, owes (c : Thread nD τ) (0 : CellTallies nD τ sig Unit) W) from by
        unfold rest; iintro ⟨HO, -, -⟩; iexact HO)⟩)
    (hinit := by
      refine Pipeline.initEach Lt lvt fun c => ?_
      rw [show unscopedBufs c (fun b => m ((c.tc : Thread nD τ).loc b)) = StableHlo.held (c.tc : Thread nD τ) (Pipeline.ucRefs τ sig) (V0 m c)
          from Pipeline.unscopedBufs_held (Ix := Unit) (Name := ℕ) (U := UR sig nD τ) (Lvl := ℕ) c (V0 m c)]
      unfold rest
      iintro ⟨⟨Hh, -, HO, -, Hp, -⟩, -⟩
      imodintro
      isplitl [Hh]; · iexact Hh
      isplitl [HO]; · iexists _; iexact HO
      isplitl [Hp]; · iexists _; iexact Hp
      iempintro)
    (QY := fun c s => ∀ b ∈ Pipeline.ucRefs τ sig, s.mem ((c.tc : Thread nD τ).1, b) = W4 m c b)
    (hfin := fun c s' => by
      unfold StableHlo.held
      iintro ⟨Hh, HSI⟩
      ihave Hr := (pointsTo_read_all (Pipeline.ucRefs τ sig) (fun b => ((c.tc : Thread nD τ).1, b)) (W4 m c) s') $$ [Hh HSI]
      · isplitl [Hh] <;> iassumption
      imodintro; iexact Hr)
    (hQ := fun _ h hz => ⟨h, funext fun g => hz g (.inr (regions_no_unscoped g.2))⟩)

/-! ## The arguments are kept -/

theorem W4_of (c : Dev nD) (r : Ref sig .tc) (h : r ∉ [main_v0, main_v1, main_v2, main_v3, main_v4])
    (h0 : ∀ w, Pipeline.arrRef spec0 w = r → (cfg0.win w).isOut = false) (h1 : ∀ w, Pipeline.arrRef spec1 w = r → (cfg1.win w).isOut = false) :
    W4 m c (Proc.devRef .tc r) = m ((c : Thread nD τ).loc r) := by
  simp only [List.mem_cons, List.not_mem_nil, or_false, not_or] at h
  have e4 : W4 m c (Proc.devRef .tc r) = W3 m c (Proc.devRef .tc r) :=
    StableHlo.after_of_writes_sub hostOps2 _ hostOps2_writes (by simp [h])
  have e3 : W3 m c (Proc.devRef .tc r) = W2 m c (Proc.devRef .tc r) :=
    Pipeline.afterRegion_keeps (dat1 (ent1 m) c) (W2 m c) launch1.win.arr_inj (fun _ => rfl) r h1
  have e2 : W2 m c (Proc.devRef .tc r) = V1 m c (Proc.devRef .tc r) :=
    Pipeline.afterRegion_keeps (dat0 (ent0 m) c) (V1 m c) launch0.win.arr_inj (fun _ => rfl) r h0
  exact e4.trans (e3.trans (e2.trans ((V1_of m c r (by simp [h])).trans rfl)))

theorem uc_mem (r : Ref sig .tc) (h : r.isScoped = false) : (Proc.devRef .tc r : DevRef τ sig) ∈ Pipeline.ucRefs τ sig :=
  Finset.mem_filter.mpr ⟨StableHlo.devRef_mem_tcRefs r, by rw [Proc.isScoped_devRef, h]; exact Bool.false_ne_true⟩

/-- Read off the end: an argument is as launched. -/
theorem kept {mem : (ℓ : Loc nD τ sig) → Buf (Elt F) ℓ} (c : Dev nD)
    (H : ∀ b ∈ Pipeline.ucRefs τ sig, mem ((c.tc : Thread nD τ).1, b) = W4 m c b) (r : Ref sig .tc) (hs : r.isScoped = false)
    (h : r ∉ [main_v0, main_v1, main_v2, main_v3, main_v4])
    (h0 : ∀ w, Pipeline.arrRef spec0 w = r → (cfg0.win w).isOut = false) (h1 : ∀ w, Pipeline.arrRef spec1 w = r → (cfg1.win w).isOut = false) :
    mem ((c.tc : Thread nD τ).loc r) = m ((c.tc : Thread nD τ).loc r) :=
  (H _ (uc_mem r hs)).trans (W4_of m c r h h0 h1)

theorem args_kept {mem : (ℓ : Loc nD τ sig) → Buf (Elt F) ℓ} (c : Dev nD)
    (H : ∀ b ∈ Pipeline.ucRefs τ sig, mem ((c.tc : Thread nD τ).1, b) = W4 m c b) :
      mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6) :=
  ⟨kept m c H main_arg0 rfl (by decide) (by decide) (by decide), kept m c H main_arg1 rfl (by decide) (by decide) (by decide),
    kept m c H main_arg2 rfl (by decide) (by decide) (by decide), kept m c H main_arg3 rfl (by decide) (by decide) (by decide),
    kept m c H main_arg4 rfl (by decide) (by decide) (by decide), kept m c H main_arg5 rfl (by decide) (by decide) (by decide),
    kept m c H main_arg6 rfl (by decide) (by decide) (by decide)⟩

/-- The program's frame. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => args_kept m c (h.1 c), h.2⟩) (run m ρ)

end Cert.KernelIdeal.Hand
-- ==== Proof.Hand.Frames.lean ====
/- The three frames: the kernel at the exact extended reals, the kernel at the machine's words, and the reference. -/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Hand.Asm
public import Idealize.ShloMosaic.Lib.Tactic
public import Idealize.ShloMosaic.Lib.Quiescent

@[expose] public section

set_option maxRecDepth 16384

noncomputable section

namespace Cert.Hand

open Idealize.ShloMosaic Idealize.ShloMosaic.Tactic Idealize.ShloMosaic.TcCoe Idealize.SL.Sem

/-- The kernel's frame at the machine's words, spelled with the idealization's names: the two programs are the same text. -/
def FrameAtBits : Prop := ∀ (m : (ℓ : Loc Cert.KernelIdeal.nD Cert.KernelIdeal.τ Cert.KernelIdeal.sig) → Buf (Elt Bits) ℓ) (g : Dev Cert.KernelIdeal.nD → PrngReg),
    True →
    θ_run (@Cert.KernelIdeal.defs Bits _ Cert.KernelIdeal.Gen.facts) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

set_option maxRecDepth 100000 in
theorem frameAtBits_eq : FrameAtBits = quiescent_Kernel (hKernel := Cert.Kernel.Gen.facts) := by
  sl_kernel_rfl

theorem frame_kernel : quiescent_Kernel (hKernel := Cert.Kernel.Gen.facts) :=
  frameAtBits_eq.mp fun m g _ => Cert.KernelIdeal.Hand.frame_run m g

theorem frame_ideal : quiescent_KernelIdeal (hKernelIdeal := Cert.KernelIdeal.Gen.facts) :=
  fun m g _ => Cert.KernelIdeal.Hand.frame_run m g

theorem frame_reference : quiescent_ReferenceIdeal (hReferenceIdeal := Cert.ReferenceIdeal.Gen.facts) :=
  fun m g _ => (θ_run _ _ _).mono (fun _ h => ⟨fun c => (h c).2, sem_eq_zero_of_no_sems rfl _⟩) (Cert.ReferenceIdeal.Value.run m g)

end Cert.Hand

end
-- ==== Proof.Hand.Unpack.lean ====
/- The packed codes: what the kernel's shifts and masks leave of a byte, and the signed number it stands for. -/
module

public import proofs.«01_k».proof.Proof.Hand.Form
public import Idealize.ShloMosaic.Lib.BitcastFour
public import Idealize.ShloMosaic.Lib.ValueIdx
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe

/-! ## The lane and the shift -/

theorem laneOf_val : ∀ (b : Fin 2) (a : Fin 8) (l : Fin 128),
    (laneOf (BitVec.ofNat 32 (64 * b.val)) (ValueIdx.ix2 a l)).toNat % 128 = 64 * b.val + l.val / 2 := by
  decide +kernel

theorem shiftOf_val : ∀ (a : Fin 8) (l : Fin 128), shiftOf (ValueIdx.ix2 a l) = if l.val % 2 = 0 then 4#32 else 0#32 := by
  decide +kernel

/-! ## A word shifted and masked, bit by bit -/

theorem mask_bit : ∀ n : Fin 32, (4042322160#32).getLsbD n.val = decide (4 ≤ n.val % 8) := by decide
theorem maskByte_bit : ∀ n : Fin 8, (0xF0#8).getLsbD n.val = decide (4 ≤ n.val) := by decide

/-- A byte moved up by four bits or left in place, its low half cleared. -/
def upper (up : Prop) [Decidable up] (b : BitVec 8) : BitVec 8 := (if up then b <<< 4 else b) &&& 0xF0#8

theorem upper_bit (up : Prop) [Decidable up] (b : BitVec 8) (q : ℕ) (hq : q < 8) :
    (upper up b).getLsbD q = (decide (4 ≤ q) && b.getLsbD (if up then q - 4 else q)) := by
  unfold upper
  rw [BitVec.getLsbD_and, maskByte_bit ⟨q, hq⟩, Bool.and_comm]
  by_cases h4 : 4 ≤ q
  · have : decide (4 ≤ q) = true := decide_eq_true h4
    dsimp only
    rw [this, Bool.true_and, Bool.true_and]
    split
    · rw [BitVec.getLsbD_shiftLeft]; simp [hq, Nat.not_lt.mpr h4]
    · rfl
  · dsimp only
    rw [decide_eq_false h4, Bool.false_and, Bool.false_and]

theorem word_bit (up : Prop) [Decidable up] (x : BitVec 32) (n : ℕ) (hn : n < 32) :
    (IntOp.andi (IntOp.shli .vector x (if up then 4#32 else 0#32)) 4042322160#32).getLsbD n
      = (decide (4 ≤ n % 8) && x.getLsbD (if up then n - 4 else n)) := by
  show ((IntOp.shli .vector x (if up then 4#32 else 0#32)) &&& 4042322160#32).getLsbD n = _
  rw [BitVec.getLsbD_and, mask_bit ⟨n, hn⟩, Bool.and_comm]
  by_cases h4 : 4 ≤ n % 8
  · dsimp only
    rw [decide_eq_true h4, Bool.true_and, Bool.true_and]
    have h4' : ¬n < 4 := by omega
    split
    · show (if (4#32).toNat < 32 then x <<< (4#32) else _).getLsbD n = _
      rw [if_pos (by decide)]
      show (x <<< (4 : ℕ)).getLsbD n = _
      rw [BitVec.getLsbD_shiftLeft]; simp [hn, h4']
    · show (if (0#32).toNat < 32 then x <<< (0#32) else _).getLsbD n = _
      rw [if_pos (by decide)]
      show (x <<< (0 : ℕ)).getLsbD n = _
      rw [BitVec.getLsbD_shiftLeft]; simp [hn]
  · dsimp only
    rw [decide_eq_false h4, Bool.false_and, Bool.false_and]

/-! ## A tile unpacked -/

/-- The byte lane `l` of a tile is made from. -/
abbrev srcLane (b : Fin 2) (l : Fin 128) : Fin 128 := ⟨64 * b.val + l.val / 2, by omega⟩

theorem word_at {F : FTy → Type} [FloatOps F] (b : Fin 2) (x : Vec F S32x128 .i8) (a : Fin 8) (l : Fin 128) :
    (andi (shli (dynamicGather 1 (bitcast S8x128 32 x bitcasts_S32x128_w8_S8x128_w32)
        (shapeCast S8x128 (shapeCast S8x128x1 (laneOf (BitVec.ofNat 32 (64 * b.val))) shapeCasts_S8x128_S8x128x1) shapeCasts_S8x128x1_S8x128)) shiftOf)
      (broadcast S8x128 4042322160#32)) (ValueIdx.ix2 a l)
      = IntOp.andi (IntOp.shli .vector (bitcast S8x128 32 x bitcasts_S32x128_w8_S8x128_w32 (ValueIdx.ix2 a (srcLane b l)))
          (if l.val % 2 = 0 then 4#32 else 0#32)) 4042322160#32 := by
  rw [shapeCast_shapeCast]
  show IntOp.andi (IntOp.shli .vector (dynamicGather 1 (bitcast S8x128 32 x bitcasts_S32x128_w8_S8x128_w32)
    (laneOf (BitVec.ofNat 32 (64 * b.val))) (ValueIdx.ix2 a l)) (shiftOf (ValueIdx.ix2 a l))) 4042322160#32 = _
  rw [shiftOf_val]
  refine congrArg (fun z => IntOp.andi (IntOp.shli .vector z (if l.val % 2 = 0 then 4#32 else 0#32)) 4042322160#32) ?_
  unfold dynamicGather
  refine congrArg _ (funext fun d => Fin.ext ?_)
  match d with
  | ⟨0, _⟩ => rfl
  | ⟨1, _⟩ => exact laneOf_val b a l

theorem unpack_apply {F : FTy → Type} [FloatOps F] (b : Fin 2) (x : Vec F S32x128 .i8) (r : Fin 32) (l : Fin 128) :
    unpack (F := F) (BitVec.ofNat 32 (64 * b.val)) x (ValueIdx.ix2 r l) = upper (l.val % 2 = 0) (x (ValueIdx.ix2 r (srcLane b l))) := by
  apply BitVec.eq_of_getLsbD_eq
  intro q hq
  rw [upper_bit _ _ q hq]
  unfold unpack
  rw [bitcast_getLsbD _ _ _ q hq (by decide)]
  have hrow : (S32x128 : Shape).row (ValueIdx.ix2 r l) = r.val := rfl
  have hidx : ∀ (p : ℕ) (hp) (a : Fin 8), p = a.val → bitcasts_S8x128_w32_S32x128_w8.srcIdx (ValueIdx.ix2 r l) p hp = ValueIdx.ix2 a l := by
    intro p hp a e
    funext d
    match d with
    | ⟨0, _⟩ => exact Fin.ext ((Shape.Bitcasts.srcIdx_row _ _ _ _ ⟨0, Nat.zero_lt_two⟩ rfl).trans e)
    | ⟨1, _⟩ => exact Fin.ext (Shape.Bitcasts.srcIdx_other _ _ _ _ ⟨1, Nat.one_lt_two⟩ (by show ¬ 1 + 2 = 2; omega))
  have hr := r.isLt
  rw [hidx _ _ ⟨r.val / 4, by omega⟩ (by rw [hrow]; dsimp only; omega), word_at, hrow,
    word_bit _ _ _ (Nat.mod_lt _ (by decide))]
  have e1 : (r.val * 8 + q) % 32 % 8 = q := by omega
  rw [e1]
  by_cases h4 : 4 ≤ q
  · rw [decide_eq_true h4, Bool.true_and, Bool.true_and]
    by_cases hl : l.val % 2 = 0
    · rw [if_pos hl, if_pos hl, bitcast_8_32_getLsbD_ix2 x _ _ _ _ (by omega) r (by dsimp only; omega)]
      congr 1; omega
    · rw [if_neg hl, if_neg hl, bitcast_8_32_getLsbD_ix2 x _ _ _ _ (by omega) r (by dsimp only; omega)]
      congr 1
  · rw [decide_eq_false h4, Bool.false_and, Bool.false_and]

/-! ## The number a half byte stands for -/

/-- The low half of a byte as a signed number: what the plain reading of the format computes. -/
def lowNib (b : BitVec 8) : BitVec 32 :=
  Scalar.select (IntOp.cmpi .sge (IntOp.andi (b.setWidth 32) 15#32) 8#32) (IntOp.subi (IntOp.andi (b.setWidth 32) 15#32) 16#32) (IntOp.andi (b.setWidth 32) 15#32)
/-- The high half likewise. -/
def highNib (b : BitVec 8) : BitVec 32 :=
  Scalar.select (IntOp.cmpi .sge (IntOp.shrsi .host (b.setWidth 32) 4#32) 8#32) (IntOp.subi (IntOp.shrsi .host (b.setWidth 32) 4#32) 16#32) (IntOp.shrsi .host (b.setWidth 32) 4#32)

theorem upper_low : ∀ n : Fin 256, ((BitVec.ofFin (w := 8) n <<< 4) &&& 0xF0#8).toInt = 16 * (lowNib (BitVec.ofFin (w := 8) n)).toInt := by decide +kernel
theorem upper_high : ∀ n : Fin 256, ((BitVec.ofFin (w := 8) n) &&& 0xF0#8).toInt = 16 * (highNib (BitVec.ofFin (w := 8) n)).toInt := by decide +kernel

/-- The code of a column, from its byte: the low half on even columns, the high half on odd ones. -/
def nib (even : Prop) [Decidable even] (b : BitVec 8) : ℤ := if even then (lowNib b).toInt else (highNib b).toInt

theorem upper_toInt (even : Prop) [Decidable even] (b : BitVec 8) : (upper even b).toInt = 16 * nib even b := by
  unfold upper nib
  by_cases h : even
  · rw [if_pos h, if_pos h]; exact upper_low b.toFin
  · rw [if_neg h, if_neg h]; exact upper_high b.toFin

/-- Sixteen times the code, scaled down by sixteen, is the code. -/
theorem sixteenth (z : ℤ) : (((16 * z : ℤ) : ℝ) : EReal) * (((1 : ℝ) / 16 : ℝ) : EReal) = ((z : ℝ) : EReal) := by
  rw [← EReal.coe_mul]
  congr 1
  push_cast
  ring

end Cert.KernelIdeal.Hand

end
-- ==== Proof.Hand.MmVal.lean ====
/- The matrix product's region over the extended reals: the array it leaves is the product of the two arrays it reads. -/
module

public import proofs.«01_k».proof.Proof.Hand.Mm
public import Idealize.ShloMosaic.Lib.MatmulPlain
public import Idealize.ShloMosaic.Lib.ValueIdx
public import Idealize.ShloMosaic.Lib.Pipeline.Value
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

/-! ## An array of rank two, read at two natural numbers -/

/-- The element at row `i`, column `j`; zero outside the array. -/
def at2 {a b : ℕ} (A : (⟨2, ![a, b]⟩ : Shape).Idx → EReal) (i j : ℕ) : EReal :=
  if h : i < a ∧ j < b then A (ValueIdx.ix2 ⟨i, h.1⟩ ⟨j, h.2⟩) else 0

theorem at2_eq {a b : ℕ} (A : (⟨2, ![a, b]⟩ : Shape).Idx → EReal) (z : (⟨2, ![a, b]⟩ : Shape).Idx) (i j : ℕ)
    (h0 : (z 0).val = i) (h1 : (z 1).val = j) : A z = at2 A i j := by
  subst h0; subst h1
  unfold at2
  rw [dif_pos ⟨(z 0).isLt, (z 1).isLt⟩]
  exact congrArg A (ValueIdx.eq_ix2 z)

/-! ## One step of the accumulator -/

theorem dims1_plain : dot_S1024x2048_S2048x1024_S1024x1024_1_0_0_1_n_n = DotDims.plain 1024 2048 1024 := rfl

theorem pay1_zero (y : S1024x1024.Idx) : k1_pay1 (F := Ideal) y = (0 : EReal) := by
  show (shapeCast S1024x1024 (broadcast S1024x1024 (Scalar.ofBits (F := Ideal) .f32 0x00000000#32)) _ : S1024x1024.Idx → EReal) y = 0
  rw [shapeCast_self]
  exact Ideal.ofBits_zero_f32

theorem pay2_apply (a : Vec Ideal S1024x1024 .f32) (x : Vec Ideal S1024x2048 .bf16) (w : Vec Ideal S2048x1024 .bf16) (y : S1024x1024.Idx) :
    (k1_pay2 (F := Ideal) a x w y : EReal) = (a y : EReal) + ∑ k : Fin 2048, (x (ValueIdx.ix2 (y 0) k) : EReal) * (w (ValueIdx.ix2 k (y 1)) : EReal) := by
  obtain ⟨r, s, rfl⟩ : ∃ (r : Fin 1024) (s : Fin 1024), y = ValueIdx.ix2 r s := ⟨_, _, ValueIdx.eq_ix2 y⟩
  show shapeCast S1024x1024 (addf (F := Ideal) (φ := .f32) a (matmul (F := Ideal) dot_S1024x2048_S2048x1024_S1024x1024_1_0_0_1_n_n none
      (shapeCast S1024x2048 x shapeCasts_S1024x2048_S1024x2048) (shapeCast S2048x1024 w shapeCasts_S2048x1024_S2048x1024)
      (constant S1024x1024 .f32 0x00000000#32))) shapeCasts_S1024x1024_S1024x1024 (ValueIdx.ix2 r s) = _
  rw [shapeCast_self, shapeCast_self, shapeCast_self, dims1_plain]
  show (a (ValueIdx.ix2 r s) : EReal) + FloatOps.matmul (F := Ideal) (DotDims.plain 1024 2048 1024) none x w (constant S1024x1024 .f32 0x00000000#32) (ValueIdx.ix2 r s) = _
  rw [Ideal.matmul_plain_apply]
  show (a (ValueIdx.ix2 r s) : EReal) + (Ideal.ofBits .f32 0x00000000#32 + _) = _
  rw [Ideal.ofBits_zero_f32, zero_add]

/-! ## The blocks a point reads -/

theorem idx1_0 : ∀ t : Fin cfg1.N, win1_0.index t (0 : Fin 2) = t.val / 63 ∧ win1_0.index t (1 : Fin 2) = t.val % 9 :=
  (by decide +kernel : ∀ t : Fin grid1.N, _)
theorem idx1_1 : ∀ t : Fin cfg1.N, win1_1.index t (0 : Fin 2) = t.val % 9 ∧ win1_1.index t (1 : Fin 2) = t.val / 9 % 7 :=
  (by decide +kernel : ∀ t : Fin grid1.N, _)
theorem idx1_2 : ∀ t : Fin cfg1.N, win1_2.index t (0 : Fin 2) = t.val / 63 ∧ win1_2.index t (1 : Fin 2) = t.val / 9 % 7 :=
  (by decide +kernel : ∀ t : Fin grid1.N, _)

variable (V : Entry Ideal)

theorem iblk1_0_apply (c : Dev nD) (t : Fin cfg1.N) (z : S1024x2048.Idx) :
    (iblk1 V c 0 t z : EReal) = at2 (a := 8192) (b := 18432) (V c main_v0) (t.val / 63 * 1024 + (z 0).val) (t.val % 9 * 2048 + (z 1).val) := by
  obtain ⟨e0, e1⟩ := idx1_0 t
  refine at2_eq (a := 8192) (b := 18432) (V c main_v0) (((cfg1.win 0).blk t).view.emb z) _ _ ?_ ?_
  · show win1_0.index t (0 : Fin 2) * 1024 + 1 * (z 0).val = _; rw [e0, Nat.one_mul]
  · show win1_0.index t (1 : Fin 2) * 2048 + 1 * (z 1).val = _; rw [e1, Nat.one_mul]

theorem iblk1_1_apply (c : Dev nD) (t : Fin cfg1.N) (z : S2048x1024.Idx) :
    (iblk1 V c 1 t z : EReal) = at2 (a := 18432) (b := 7168) (V c main_v2) (t.val % 9 * 2048 + (z 0).val) (t.val / 9 % 7 * 1024 + (z 1).val) := by
  obtain ⟨e0, e1⟩ := idx1_1 t
  refine at2_eq (a := 18432) (b := 7168) (V c main_v2) (((cfg1.win 1).blk t).view.emb z) _ _ ?_ ?_
  · show win1_1.index t (0 : Fin 2) * 2048 + 1 * (z 0).val = _; rw [e0, Nat.one_mul]
  · show win1_1.index t (1 : Fin 2) * 1024 + 1 * (z 1).val = _; rw [e1, Nat.one_mul]

/-! ## The accumulator -/

/-- The `k`-th term of the product's element at row `i`, column `j`. -/
def term1 (c : Dev nD) (i j k : ℕ) : EReal := at2 (a := 8192) (b := 18432) (V c main_v0) i k * at2 (a := 18432) (b := 7168) (V c main_v2) k j

theorem step1 (c : Dev nD) (t : Fin cfg1.N) (a : Vec Ideal S1024x1024 .f32) (y : S1024x1024.Idx) :
    (k1_pay2 (F := Ideal) a (iblk1 V c 0 t) (iblk1 V c 1 t) y : EReal) = (a y : EReal)
      + ∑ k ∈ Finset.range 2048, term1 V c (t.val / 63 * 1024 + (y 0).val) (t.val / 9 % 7 * 1024 + (y 1).val) (t.val % 9 * 2048 + k) := by
  rw [pay2_apply, Finset.sum_range]
  refine congrArg (_ + ·) (Finset.sum_congr rfl fun k _ => ?_)
  rw [iblk1_0_apply, iblk1_1_apply]
  rfl

theorem acc1_eq (c : Dev nD) : ∀ (n : ℕ) (h : n < cfg1.N) (y : S1024x1024.Idx), (acc1 V c n h y : EReal)
    = ∑ k ∈ Finset.range ((n % 9 + 1) * 2048), term1 V c (n / 63 * 1024 + (y 0).val) (n / 9 % 7 * 1024 + (y 1).val) k := by
  intro n
  induction n using Nat.strong_induction_on with
  | _ n ih =>
    intro h y
    by_cases hz : n % 9 = 0
    · rw [acc1_first V c ⟨n, h⟩ hz, step1, pay1_zero, zero_add]
      show ∑ k ∈ Finset.range 2048, term1 V c (n / 63 * 1024 + _) (n / 9 % 7 * 1024 + _) (n % 9 * 2048 + k) = _
      rw [hz]
      simp only [Nat.zero_mul, Nat.zero_add, Nat.one_mul]
    · rw [acc1_next V c ⟨n, h⟩ hz, step1]
      have hlt : n - 1 < n := by omega
      have hm : (n - 1) % 9 + 1 = n % 9 := by omega
      have hd : (n - 1) / 63 = n / 63 := by omega
      have hq : (n - 1) / 9 = n / 9 := by omega
      show (acc1 V c (n - 1) _ y : EReal) + ∑ k ∈ Finset.range 2048, term1 V c (n / 63 * 1024 + _) (n / 9 % 7 * 1024 + _) (n % 9 * 2048 + k) = _
      rw [ih (n - 1) hlt, hm, hd, hq, Nat.add_mul, Nat.one_mul, Finset.sum_range_add]

/-! ## The array after the region -/

/-- The product of the two arrays the region reads. -/
def prod1 (c : Dev nD) : Buf (Elt Ideal) ((c : Thread nD τ).loc main_v3) := fun i : S8192x7168.Idx =>
  (∑ k ∈ Finset.range 18432, term1 V c (i 0).val (i 1).val k : EReal)

theorem prod1_apply (c : Dev nD) (i : S8192x7168.Idx) :
    prod1 V c i = (∑ k ∈ Finset.range 18432, term1 V c (i 0).val (i 1).val k : EReal) := rfl

theorem flushed1_2 (c : Dev nD) (t : Fin cfg1.N) (hf : (cfg1.win 2).flush t = true) :
    (dat1 V c).flushed 2 t = ((cfg1.win 2).blk t).view.read (Elt Ideal) (prod1 V c) := by
  have hm : t.val % 9 = 8 := by
    by_contra hne
    have := noFlush1_2 t (fun hl => hne ((last1_iff t).mp hl))
    rw [this] at hf
    exact Bool.false_ne_true hf
  obtain ⟨e0, e1⟩ := idx1_2 t
  show (cfg1.win 2).cut (grid1.coords t) ((dat1 V c).after 2 t) = _
  rw [after1_2]
  funext y
  have hb0 : (((cfg1.win 2).blk t).view.emb y 0).val = t.val / 63 * 1024 + (y 0).val := by
    show win1_2.index t (0 : Fin 2) * 1024 + 1 * (y 0).val = _; rw [e0, Nat.one_mul]
  have hb1 : (((cfg1.win 2).blk t).view.emb y 1).val = t.val / 9 % 7 * 1024 + (y 1).val := by
    show win1_2.index t (1 : Fin 2) * 1024 + 1 * (y 1).val = _; rw [e1, Nat.one_mul]
  have hp := prod1_apply V c (((cfg1.win 2).blk t).view.emb y)
  rw [hb0, hb1] at hp
  have ha := acc1_eq V c t.val t.isLt ((cfg1.win 2).xinj (grid1.coords t) y)
  rw [show (t.val % 9 + 1) * 2048 = 18432 from by omega] at ha
  generalize prod1 V c = G at hp ⊢
  generalize acc1 V c t.val t.isLt = A at ha ⊢
  exact ha.trans hp.symm

theorem mem_blk1_2 (t : Fin cfg1.N) (i : S8192x7168.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v3).slice (win1_2.rect t)).set ↔ _
  rw [View.set_slice_whole, Rect.mem_set_unit]
  exact Iff.rfl

/-- The point that writes back the block in row `q0`, column `q1` of blocks. -/
abbrev last1Of (q0 : Fin 8) (q1 : Fin 7) : Fin grid1.N := ⟨63 * q0.val + 9 * q1.val + 8, lt_of_lt_of_eq (by omega) N_1.symm⟩
theorem flush1_last : ∀ (q0 : Fin 8) (q1 : Fin 7), win1_2.flush (last1Of q0 q1) = true := by decide +kernel

theorem final1 (c : Dev nD) : (dat1 V c).arrAt 2 cfg1.N = prod1 V c :=
  (dat1 V c).arrAt_eq_of_cover 2 _ (fun t hf => flushed1_2 V c t hf) (fun i => by
    have h0 : (i 0).val < 8192 := (i 0).isLt
    have h1 : (i 1).val < 7168 := (i 1).isLt
    refine ⟨last1Of ⟨(i 0).val / 1024, by omega⟩ ⟨(i 1).val / 1024, by omega⟩, flush1_last _ _, (mem_blk1_2 _ i).mpr fun a => ?_⟩
    obtain ⟨e0, e1⟩ := idx1_2 (last1Of ⟨(i 0).val / 1024, by omega⟩ ⟨(i 1).val / 1024, by omega⟩)
    dsimp only [last1Of] at e0 e1
    match a with
    | ⟨0, _⟩ => show win1_2.index _ (0 : Fin 2) * 1024 ≤ (i 0).val ∧ (i 0).val < win1_2.index _ (0 : Fin 2) * 1024 + 1024; rw [e0]; omega
    | ⟨1, _⟩ => show win1_2.index _ (1 : Fin 2) * 1024 ≤ (i 1).val ∧ (i 1).val < win1_2.index _ (1 : Fin 2) * 1024 + 1024; rw [e1]; omega)

end Cert.KernelIdeal.Hand

end
-- ==== Proof.Hand.FormVal.lean ====
/- The weight's region over the extended reals: the array it leaves, element by element. -/
module

public import proofs.«01_k».proof.Proof.Hand.Unpack
public import proofs.«01_k».proof.Proof.Hand.MmVal
public import Idealize.ShloMosaic.Lib.IdealHost

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

/-! ## The low-rank term -/

theorem dims0_plain : dot_S1024x16_S16x1024_S1024x1024_1_0_0_1_n_n = DotDims.plain 1024 16 1024 := rfl

theorem rank_apply (x : Vec Ideal S1024x16 .bf16) (w : Vec Ideal S16x1024 .bf16) (r s : Fin 1024) :
    (matmul (F := Ideal) (φ₁ := .bf16) (φ₂ := .bf16) dot_S1024x16_S16x1024_S1024x1024_1_0_0_1_n_n none x w (constant S1024x1024 .f32 0x00000000#32) (ValueIdx.ix2 r s) : EReal)
      = ∑ k : Fin 16, (x (ValueIdx.ix2 r k) : EReal) * (w (ValueIdx.ix2 k s) : EReal) := by
  rw [dims0_plain]
  show FloatOps.matmul (F := Ideal) (φ₁ := .bf16) (φ₂ := .bf16) (DotDims.plain 1024 16 1024) none x w (constant S1024x1024 .f32 0x00000000#32) (ValueIdx.ix2 r s) = _
  rw [Ideal.matmul_plain_apply]
  show (Ideal.ofBits .f32 0x00000000#32 + _ : EReal) = _
  rw [Ideal.ofBits_zero_f32, zero_add]

theorem pay0_apply (x2 : Vec Ideal S1024x16 .bf16) (x3 : Vec Ideal S16x1024 .bf16) (x4 : Vec Ideal S1024x16 .bf16) (x5 : Vec Ideal S16x1024 .bf16)
    (r s : Fin 1024) : (k0_pay1 (F := Ideal) x2 x3 x4 x5 (ValueIdx.ix2 r s) : EReal)
      = Ideal.ofBits .f32 0x3E800000#32 * (∑ k : Fin 16, (x2 (ValueIdx.ix2 r k) : EReal) * (x3 (ValueIdx.ix2 k s) : EReal))
        * ∑ k : Fin 16, (x4 (ValueIdx.ix2 r k) : EReal) * (x5 (ValueIdx.ix2 k s) : EReal) := by
  rw [← rank_apply, ← rank_apply]
  rfl

theorem ld_whole2 {a b : ℕ} {α : EltTy → Type} {e : EltTy} (X : (⟨2, ![a, b]⟩ : Shape).Idx → α e) (inb) :
    View.ld X (Rect.unit (s := ⟨2, ![a, b]⟩) ![0, 0] (⟨2, ![a, b]⟩ : Shape).size inb) = X := by
  funext x
  refine View.ld_unit_apply_of X _ _ inb x x fun d => ?_
  match d with
  | ⟨0, _⟩ => exact (Nat.zero_add _).symm
  | ⟨1, _⟩ => exact (Nat.zero_add _).symm

theorem delta_apply (x2 : Vec Ideal S1024x16 .bf16) (x3 : Vec Ideal S16x1024 .bf16) (x4 : Vec Ideal S1024x16 .bf16) (x5 : Vec Ideal S16x1024 .bf16)
    (r s : Fin 1024) : (delta (F := Ideal) x2 x3 x4 x5 (ValueIdx.ix2 r s) : EReal)
      = Ideal.ofBits .f32 0x3E800000#32 * (∑ k : Fin 16, (x2 (ValueIdx.ix2 r k) : EReal) * (x3 (ValueIdx.ix2 k s) : EReal))
        * ∑ k : Fin 16, (x4 (ValueIdx.ix2 r k) : EReal) * (x5 (ValueIdx.ix2 k s) : EReal) := by
  unfold delta
  rw [ld_whole2 (a := 1024) (b := 16) x2, ld_whole2 (a := 16) (b := 1024) x3, ld_whole2 (a := 1024) (b := 16) x4, ld_whole2 (a := 16) (b := 1024) x5]
  exact pay0_apply x2 x3 x4 x5 r s

/-! ## One element of the block -/

/-- The element at row `r`, column `s` of the block the body leaves. -/
def cell (x0 : Vec Ideal S1024x512 .i8) (x1 : Vec Ideal S8x1x1024 .bf16) (x2 : Vec Ideal S1024x16 .bf16) (x3 : Vec Ideal S16x1024 .bf16)
    (x4 : Vec Ideal S1024x16 .bf16) (x5 : Vec Ideal S16x1024 .bf16) (r s : Fin 1024) : EReal :=
  ((nib (s.val % 2 = 0) (x0 (ValueIdx.ix2 r ⟨s.val / 2, by omega⟩)) : ℝ) : EReal) * (x1 (ValueIdx.ix3 ⟨r.val / 128, by omega⟩ 0 s) : EReal)
    + Ideal.ofBits .f32 0x3E800000#32 * (∑ k : Fin 16, (x2 (ValueIdx.ix2 r k) : EReal) * (x3 (ValueIdx.ix2 k s) : EReal))
      * ∑ k : Fin 16, (x4 (ValueIdx.ix2 r k) : EReal) * (x5 (ValueIdx.ix2 k s) : EReal)

theorem scaled_apply (half : BitVec 32) (by' : Vec Ideal S32x128 .i8) (sc : FVec Ideal S32x128 .bf16) (D : FVec Ideal S32x128 .f32) (z : S32x128.Idx) (n : ℤ)
    (hn : (unpack (F := Ideal) half by' z).toInt = 16 * n) :
    (truncf .bf16 (addf (F := Ideal) (φ := .f32) (extf .f32 (mulf (F := Ideal) (φ := .bf16) (mulf (F := Ideal) (φ := .bf16) (sitofp (F := Ideal) .bf16 (unpack (F := Ideal) half by'))
        (broadcast S32x128 (Scalar.ofBits (F := Ideal) .bf16 0x3D80#16))) sc) bitsLt_bf16_f32) D) bitsLt_bf16_f32 z : EReal)
      = ((n : ℝ) : EReal) * (sc z : EReal) + (D z : EReal) := by
  show (((((unpack (F := Ideal) half by' z).toInt : ℝ) : EReal) * Ideal.ofBits .bf16 0x3D80#16) * (sc z : EReal) + (D z : EReal) : EReal) = _
  rw [hn, Ideal.ofBits_sixteenth_bf16, sixteenth]

theorem tile_apply (x0 : Vec Ideal S1024x512 .i8) (x1 : Vec Ideal S8x1x1024 .bf16) (D : FVec Ideal S1024x1024 .f32) (i : Fin 256) (r : Fin 32) (l : Fin 128)
    (R S : Fin 1024) (hR : R.val = row0 i.val + r.val) (hS : S.val = col0 i.val + l.val) :
    (tile (F := Ideal) x0 x1 D i (ValueIdx.ix2 r l) : EReal)
      = ((nib (S.val % 2 = 0) (x0 (ValueIdx.ix2 R ⟨S.val / 2, by omega⟩)) : ℝ) : EReal) * (x1 (ValueIdx.ix3 ⟨R.val / 128, by omega⟩ 0 S) : EReal)
        + (D (ValueIdx.ix2 R S) : EReal) := by
  have hi := i.isLt
  have hr := r.isLt
  have hl := l.isLt
  have hpar : (l.val % 2 = 0) ↔ (S.val % 2 = 0) := by unfold col0 at hS; omega
  have hb : x0 (ValueIdx.ix2 R ⟨S.val / 2, by omega⟩)
      = View.ld x0 (Rect.unit (s := S1024x512) ![row0 i.val, code0 i.val] S32x128.size (inbCode i)) (ValueIdx.ix2 r (srcLane ⟨i.val / 4 % 8 % 2, Nat.mod_lt _ (by decide)⟩ l)) := by
    refine (View.ld_unit_apply_of x0 _ _ (inbCode i) _ _ fun d => ?_).symm
    match d with
    | ⟨0, _⟩ => exact hR
    | ⟨1, _⟩ =>
      show S.val / 2 = code0 i.val + (64 * (i.val / 4 % 8 % 2) + l.val / 2)
      unfold code0; unfold col0 at hS; omega
  have hn : (unpack (F := Ideal) (BitVec.ofNat 32 (64 * (i.val / 4 % 8 % 2)))
        (View.ld x0 (Rect.unit (s := S1024x512) ![row0 i.val, code0 i.val] S32x128.size (inbCode i))) (ValueIdx.ix2 r l)).toInt
      = 16 * nib (S.val % 2 = 0) (x0 (ValueIdx.ix2 R ⟨S.val / 2, by omega⟩)) := by
    rw [hb, unpack_apply ⟨i.val / 4 % 8 % 2, Nat.mod_lt _ (by decide)⟩, upper_toInt]
    unfold nib
    simp only [hpar]
  unfold tile
  rw [scaled_apply _ _ _ _ _ _ hn]
  congr 1
  · congr 1
    rw [broadcastTo_apply _ _ _ (ValueIdx.ix2 (n0 := 1) (n1 := 128) 0 l) (fun d => by
      match d with
      | ⟨0, _⟩ => rfl
      | ⟨1, _⟩ => rfl)]
    rw [shapeCast_apply _ _ _ (ValueIdx.ix3 (n0 := 1) (n1 := 1) (n2 := 128) 0 0 l) (by
      rw [Shape.rowMajor_val_two, Shape.rowMajor_val_three]; rfl)]
    refine View.ld_unit_apply_of x1 _ _ (inbScale i) _ _ fun d => ?_
    match d with
    | ⟨0, _⟩ => show R.val / 128 = i.val / 32 + 0; unfold row0 at hR; omega
    | ⟨1, _⟩ => rfl
    | ⟨2, _⟩ => exact hS
  · exact extractStridedSlice_apply _ _ (slicesOut i) _ _ (fun d => by
      match d with
      | ⟨0, _⟩ => exact hR
      | ⟨1, _⟩ => exact hS)

theorem out0_apply (x0 : Vec Ideal S1024x512 .i8) (x1 : Vec Ideal S8x1x1024 .bf16) (x2 : Vec Ideal S1024x16 .bf16) (x3 : Vec Ideal S16x1024 .bf16)
    (x4 : Vec Ideal S1024x16 .bf16) (x5 : Vec Ideal S16x1024 .bf16) (r s : Fin 1024) :
    (out0 (F := Ideal) x0 x1 x2 x3 x4 x5 (ValueIdx.ix2 r s) : EReal) = cell x0 x1 x2 x3 x4 x5 r s := by
  unfold out0
  refine View.canon_eq_of_allAt _ _ _ (cover_tiles x0 x1 _ _) fun p hp x hx => ?_
  obtain ⟨i, _, rfl⟩ := (mem_tilePieces _ _ _ _ _ _ _).mp hp
  have h0 : r.val = row0 i.val + (x 0).val := by
    rw [← Nat.one_mul (x 0).val]; exact congrArg Fin.val (congrFun hx 0).symm
  have h1 : s.val = col0 i.val + (x 1).val := by
    rw [← Nat.one_mul (x 1).val]; exact congrArg Fin.val (congrFun hx 1).symm
  have ht := tile_apply x0 x1 (delta (F := Ideal) x2 x3 x4 x5) i (x 0) (x 1) r s h0 h1
  rw [delta_apply] at ht
  have hx2 : x = ValueIdx.ix2 (n0 := 32) (n1 := 128) (x 0) (x 1) := ValueIdx.eq_ix2 x
  exact (congrArg (tile (F := Ideal) x0 x1 (delta (F := Ideal) x2 x3 x4 x5) i) hx2).trans ht

/-! ## The weight, read at two natural numbers -/

/-- The code of row `i`, column `j`, from an array of packed bytes; zero outside. -/
def nibAt {a b : ℕ} (A : (⟨2, ![a, b]⟩ : Shape).Idx → BitVec 8) (i j : ℕ) : EReal :=
  if h : i < a ∧ j / 2 < b then ((nib (j % 2 = 0) (A (ValueIdx.ix2 ⟨i, h.1⟩ ⟨j / 2, h.2⟩)) : ℝ) : EReal) else 0

theorem nibAt_eq {a b : ℕ} (A : (⟨2, ![a, b]⟩ : Shape).Idx → BitVec 8) (z : (⟨2, ![a, b]⟩ : Shape).Idx) (i j : ℕ) (even : Prop) [Decidable even]
    (h0 : (z 0).val = i) (h1 : (z 1).val = j / 2) (he : even ↔ j % 2 = 0) : ((nib even (A z) : ℝ) : EReal) = nibAt A i j := by
  subst h0
  unfold nibAt
  rw [dif_pos ⟨(z 0).isLt, h1 ▸ (z 1).isLt⟩]
  have hz : z = ValueIdx.ix2 ⟨(z 0).val, (z 0).isLt⟩ ⟨j / 2, h1 ▸ (z 1).isLt⟩ := by
    funext d
    match d with
    | ⟨0, _⟩ => rfl
    | ⟨1, _⟩ => exact Fin.ext h1
  refine Eq.trans ?_ (congrArg (fun q => ((nib (j % 2 = 0) (A q) : ℝ) : EReal)) hz)
  unfold nib
  simp only [he]

/-- The element of a rank-three array with a middle axis of one. -/
def at3 {a b : ℕ} (A : (⟨3, ![a, 1, b]⟩ : Shape).Idx → EReal) (i j : ℕ) : EReal :=
  if h : i < a ∧ j < b then A (ValueIdx.ix3 ⟨i, h.1⟩ 0 ⟨j, h.2⟩) else 0

theorem at3_eq {a b : ℕ} (A : (⟨3, ![a, 1, b]⟩ : Shape).Idx → EReal) (z : (⟨3, ![a, 1, b]⟩ : Shape).Idx) (i j : ℕ)
    (h0 : (z 0).val = i) (h1 : (z 2).val = j) : A z = at3 A i j := by
  subst h0; subst h1
  unfold at3
  rw [dif_pos ⟨(z 0).isLt, (z 2).isLt⟩]
  refine congrArg A (funext fun d => ?_)
  match d with
  | ⟨0, _⟩ => rfl
  | ⟨1, _⟩ => exact Fin.ext (Nat.lt_one_iff.mp (z 1).isLt)
  | ⟨2, _⟩ => rfl

/-- The element of the weight at row `i`, column `j`. -/
def weight (codes : S18432x3584.Idx → BitVec 8) (scales : S144x1x7168.Idx → EReal) (u1 : S18432x16.Idx → EReal) (v1 : S16x7168.Idx → EReal)
    (u2 : S18432x16.Idx → EReal) (v2 : S16x7168.Idx → EReal) (i j : ℕ) : EReal :=
  nibAt (a := 18432) (b := 3584) codes i j * at3 (a := 144) (b := 7168) scales (i / 128) j
    + Ideal.ofBits .f32 0x3E800000#32 * (∑ k : Fin 16, at2 (a := 18432) (b := 16) u1 i k.val * at2 (a := 16) (b := 7168) v1 k.val j)
      * ∑ k : Fin 16, at2 (a := 18432) (b := 16) u2 i k.val * at2 (a := 16) (b := 7168) v2 k.val j

/-! ## The blocks a point reads -/

theorem idx0_0 : ∀ t : Fin cfg0.N, win0_0.index t (0 : Fin 2) = t.val % 18 ∧ win0_0.index t (1 : Fin 2) = t.val / 18 :=
  (by decide +kernel : ∀ t : Fin grid0.N, _)
theorem idx0_1 : ∀ t : Fin cfg0.N, win0_1.index t (0 : Fin 3) = t.val % 18 ∧ win0_1.index t (1 : Fin 3) = 0 ∧ win0_1.index t (2 : Fin 3) = t.val / 18 :=
  (by decide +kernel : ∀ t : Fin grid0.N, _)
theorem idx0_2 : ∀ t : Fin cfg0.N, win0_2.index t (0 : Fin 2) = t.val % 18 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = t.val / 18 :=
  (by decide +kernel : ∀ t : Fin grid0.N, _)
theorem idx0_4 : ∀ t : Fin cfg0.N, win0_4.index t (0 : Fin 2) = t.val % 18 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = t.val / 18 :=
  (by decide +kernel : ∀ t : Fin grid0.N, _)
theorem idx0_6 : ∀ t : Fin cfg0.N, win0_6.index t (0 : Fin 2) = t.val % 18 ∧ win0_6.index t (1 : Fin 2) = t.val / 18 :=
  (by decide +kernel : ∀ t : Fin grid0.N, _)

variable (V : Entry Ideal)

theorem iblk0_0_apply (c : Dev nD) (t : Fin cfg0.N) (r s : Fin 1024) :
    ((nib (s.val % 2 = 0) (iblk0 V c 0 t (ValueIdx.ix2 (n0 := 1024) (n1 := 512) r ⟨s.val / 2, by omega⟩)) : ℝ) : EReal)
      = nibAt (a := 18432) (b := 3584) (V c main_arg1) (t.val % 18 * 1024 + r.val) (t.val / 18 * 1024 + s.val) := by
  obtain ⟨e0, e1⟩ := idx0_0 t
  refine nibAt_eq (a := 18432) (b := 3584) (V c main_arg1) (((cfg0.win 0).blk t).view.emb (ValueIdx.ix2 (n0 := 1024) (n1 := 512) r ⟨s.val / 2, by omega⟩)) _ _ _ ?_ ?_ ?_
  · show win0_0.index t (0 : Fin 2) * 1024 + 1 * r.val = _; rw [e0, Nat.one_mul]
  · show win0_0.index t (1 : Fin 2) * 512 + 1 * (s.val / 2) = _; rw [e1, Nat.one_mul]; omega
  · omega

theorem iblk0_1_apply (c : Dev nD) (t : Fin cfg0.N) (r s : Fin 1024) :
    (iblk0 V c 1 t (ValueIdx.ix3 (n0 := 8) (n1 := 1) (n2 := 1024) ⟨r.val / 128, by omega⟩ 0 s) : EReal)
      = at3 (a := 144) (b := 7168) (V c main_v1) ((t.val % 18 * 1024 + r.val) / 128) (t.val / 18 * 1024 + s.val) := by
  obtain ⟨e0, _, e2⟩ := idx0_1 t
  refine at3_eq (a := 144) (b := 7168) (V c main_v1) (((cfg0.win 1).blk t).view.emb (ValueIdx.ix3 (n0 := 8) (n1 := 1) (n2 := 1024) ⟨r.val / 128, by omega⟩ 0 s)) _ _ ?_ ?_
  · show win0_1.index t (0 : Fin 3) * 8 + 1 * (r.val / 128) = _; rw [e0, Nat.one_mul]; omega
  · show win0_1.index t (2 : Fin 3) * 1024 + 1 * s.val = _; rw [e2, Nat.one_mul]

theorem iblk0_2_apply (c : Dev nD) (t : Fin cfg0.N) (r : Fin 1024) (k : Fin 16) :
    (iblk0 V c 2 t (ValueIdx.ix2 (n0 := 1024) (n1 := 16) r k) : EReal) = at2 (a := 18432) (b := 16) (V c main_arg3) (t.val % 18 * 1024 + r.val) k.val := by
  obtain ⟨e0, e1⟩ := idx0_2 t
  refine at2_eq (a := 18432) (b := 16) (V c main_arg3) (((cfg0.win 2).blk t).view.emb (ValueIdx.ix2 (n0 := 1024) (n1 := 16) r k)) _ _ ?_ ?_
  · show win0_2.index t (0 : Fin 2) * 1024 + 1 * r.val = _; rw [e0, Nat.one_mul]
  · show win0_2.index t (1 : Fin 2) * 16 + 1 * k.val = _; rw [e1, Nat.one_mul, Nat.zero_mul, Nat.zero_add]

theorem iblk0_3_apply (c : Dev nD) (t : Fin cfg0.N) (k : Fin 16) (s : Fin 1024) :
    (iblk0 V c 3 t (ValueIdx.ix2 (n0 := 16) (n1 := 1024) k s) : EReal) = at2 (a := 16) (b := 7168) (V c main_arg4) k.val (t.val / 18 * 1024 + s.val) := by
  obtain ⟨e0, e1⟩ := idx0_3 t
  refine at2_eq (a := 16) (b := 7168) (V c main_arg4) (((cfg0.win 3).blk t).view.emb (ValueIdx.ix2 (n0 := 16) (n1 := 1024) k s)) _ _ ?_ ?_
  · show win0_3.index t (0 : Fin 2) * 16 + 1 * k.val = _; rw [e0, Nat.one_mul, Nat.zero_mul, Nat.zero_add]
  · show win0_3.index t (1 : Fin 2) * 1024 + 1 * s.val = _; rw [e1, Nat.one_mul]

theorem iblk0_4_apply (c : Dev nD) (t : Fin cfg0.N) (r : Fin 1024) (k : Fin 16) :
    (iblk0 V c 4 t (ValueIdx.ix2 (n0 := 1024) (n1 := 16) r k) : EReal) = at2 (a := 18432) (b := 16) (V c main_arg5) (t.val % 18 * 1024 + r.val) k.val := by
  obtain ⟨e0, e1⟩ := idx0_4 t
  refine at2_eq (a := 18432) (b := 16) (V c main_arg5) (((cfg0.win 4).blk t).view.emb (ValueIdx.ix2 (n0 := 1024) (n1 := 16) r k)) _ _ ?_ ?_
  · show win0_4.index t (0 : Fin 2) * 1024 + 1 * r.val = _; rw [e0, Nat.one_mul]
  · show win0_4.index t (1 : Fin 2) * 16 + 1 * k.val = _; rw [e1, Nat.one_mul, Nat.zero_mul, Nat.zero_add]

theorem iblk0_5_apply (c : Dev nD) (t : Fin cfg0.N) (k : Fin 16) (s : Fin 1024) :
    (iblk0 V c 5 t (ValueIdx.ix2 (n0 := 16) (n1 := 1024) k s) : EReal) = at2 (a := 16) (b := 7168) (V c main_arg6) k.val (t.val / 18 * 1024 + s.val) := by
  obtain ⟨e0, e1⟩ := idx0_5 t
  refine at2_eq (a := 16) (b := 7168) (V c main_arg6) (((cfg0.win 5).blk t).view.emb (ValueIdx.ix2 (n0 := 16) (n1 := 1024) k s)) _ _ ?_ ?_
  · show win0_5.index t (0 : Fin 2) * 16 + 1 * k.val = _; rw [e0, Nat.one_mul, Nat.zero_mul, Nat.zero_add]
  · show win0_5.index t (1 : Fin 2) * 1024 + 1 * s.val = _; rw [e1, Nat.one_mul]

/-! ## The array after the region -/

/-- The weight made of the region's arrays. -/
def weight0 (c : Dev nD) (i j : ℕ) : EReal :=
  weight (V c main_arg1) (V c main_v1) (V c main_arg3) (V c main_arg4) (V c main_arg5) (V c main_arg6) i j

theorem cell_blocks (c : Dev nD) (t : Fin cfg0.N) (r s : Fin 1024) :
    cell (iblk0 V c 0 t) (iblk0 V c 1 t) (iblk0 V c 2 t) (iblk0 V c 3 t) (iblk0 V c 4 t) (iblk0 V c 5 t) r s
      = weight0 V c (t.val % 18 * 1024 + r.val) (t.val / 18 * 1024 + s.val) := by
  unfold cell weight0 weight
  rw [iblk0_0_apply, iblk0_1_apply]
  simp only [iblk0_2_apply, iblk0_3_apply, iblk0_4_apply, iblk0_5_apply]

/-- The array of the weight. -/
def wt0 (c : Dev nD) : Buf (Elt Ideal) ((c : Thread nD τ).loc main_v2) := fun i : S18432x7168.Idx => (weight0 V c (i 0).val (i 1).val : EReal)

theorem wt0_apply (c : Dev nD) (i : S18432x7168.Idx) : wt0 V c i = (weight0 V c (i 0).val (i 1).val : EReal) := rfl

theorem flushed0_6 (c : Dev nD) (t : Fin cfg0.N) : (dat0 V c).flushed 6 t = ((cfg0.win 6).blk t).view.read (Elt Ideal) (wt0 V c) := by
  obtain ⟨e0, e1⟩ := idx0_6 t
  show (cfg0.win 6).cut (grid0.coords t) ((dat0 V c).after 6 t) = _
  rw [after0_6]
  funext y
  have hb0 : (((cfg0.win 6).blk t).view.emb y 0).val = t.val % 18 * 1024 + (y 0).val := by
    show win0_6.index t (0 : Fin 2) * 1024 + 1 * (y 0).val = _; rw [e0, Nat.one_mul]
  have hb1 : (((cfg0.win 6).blk t).view.emb y 1).val = t.val / 18 * 1024 + (y 1).val := by
    show win0_6.index t (1 : Fin 2) * 1024 + 1 * (y 1).val = _; rw [e1, Nat.one_mul]
  have hp := wt0_apply V c (((cfg0.win 6).blk t).view.emb y)
  rw [hb0, hb1] at hp
  obtain ⟨r, s, hrs⟩ : ∃ (r : Fin 1024) (s : Fin 1024), (cfg0.win 6).xinj (grid0.coords t) y = ValueIdx.ix2 r s := ⟨_, _, ValueIdx.eq_ix2 _⟩
  have hr : r.val = (y 0).val := (congrArg Fin.val (congrFun hrs 0)).symm
  have hs : s.val = (y 1).val := (congrArg Fin.val (congrFun hrs 1)).symm
  have ha := (out0_apply (iblk0 V c 0 t) (iblk0 V c 1 t) (iblk0 V c 2 t) (iblk0 V c 3 t) (iblk0 V c 4 t) (iblk0 V c 5 t) r s).trans (cell_blocks V c t r s)
  rw [← hrs, hr, hs] at ha
  generalize wt0 V c = G at hp ⊢
  generalize out0 (F := Ideal) (iblk0 V c 0 t) (iblk0 V c 1 t) (iblk0 V c 2 t) (iblk0 V c 3 t) (iblk0 V c 4 t) (iblk0 V c 5 t) = A at ha ⊢
  exact ha.trans hp.symm

theorem mem_blk0_6 (t : Fin cfg0.N) (i : S18432x7168.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v2).slice (win0_6.rect t)).set ↔ _
  rw [View.set_slice_whole, Rect.mem_set_unit]
  exact Iff.rfl

/-- The point that makes the block in row `q0`, column `q1` of blocks. -/
abbrev pointOf (q0 : Fin 18) (q1 : Fin 7) : Fin grid0.N := ⟨18 * q1.val + q0.val, lt_of_lt_of_eq (by omega) N_0.symm⟩

theorem final0 (c : Dev nD) : (dat0 V c).arrAt 6 cfg0.N = wt0 V c :=
  (dat0 V c).arrAt_eq_of_cover 6 _ (fun t _ => flushed0_6 V c t) (fun i => by
    have h0 : (i 0).val < 18432 := (i 0).isLt
    have h1 : (i 1).val < 7168 := (i 1).isLt
    refine ⟨pointOf ⟨(i 0).val / 1024, by omega⟩ ⟨(i 1).val / 1024, by omega⟩, flush0_6 _, (mem_blk0_6 _ i).mpr fun a => ?_⟩
    obtain ⟨e0, e1⟩ := idx0_6 (pointOf ⟨(i 0).val / 1024, by omega⟩ ⟨(i 1).val / 1024, by omega⟩)
    dsimp only [pointOf] at e0 e1
    match a with
    | ⟨0, _⟩ => show win0_6.index _ (0 : Fin 2) * 1024 ≤ (i 0).val ∧ (i 0).val < win0_6.index _ (0 : Fin 2) * 1024 + 1024; rw [e0]; omega
    | ⟨1, _⟩ => show win0_6.index _ (1 : Fin 2) * 1024 ≤ (i 1).val ∧ (i 1).val < win0_6.index _ (1 : Fin 2) * 1024 + 1024; rw [e1]; omega)

end Cert.KernelIdeal.Hand

end
-- ==== Proof.Hand.RefVal.lean ====
/- The reference over the extended reals, element by element. -/
module

public import proofs.«01_k».proof.Proof.Hand.FormVal
public import proofs.«01_k».proof.Proof.Gen.ReferenceIdeal.Read

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe
open Cert.KernelIdeal.Hand (at2 at2_eq at3 at3_eq nib nibAt nibAt_eq lowNib highNib weight)

/-! ## The weight's element, with the scales as the caller passes them -/

def weightR (codes : S18432x3584.Idx → BitVec 8) (scales : S144x7168.Idx → EReal) (u1 : S18432x16.Idx → EReal) (v1 : S16x7168.Idx → EReal)
    (u2 : S18432x16.Idx → EReal) (v2 : S16x7168.Idx → EReal) (i j : ℕ) : EReal :=
  nibAt (a := 18432) (b := 3584) codes i j * at2 (a := 144) (b := 7168) scales (i / 128) j
    + Ideal.ofBits .f32 0x3E800000#32 * (∑ k : Fin 16, at2 (a := 18432) (b := 16) u1 i k.val * at2 (a := 16) (b := 7168) v1 k.val j)
      * ∑ k : Fin 16, at2 (a := 18432) (b := 16) u2 i k.val * at2 (a := 16) (b := 7168) v2 k.val j

/-- The result at `y`: a row of the input against a column of the weight. -/
def value (x : S4x2048x18432.Idx → EReal) (codes : S18432x3584.Idx → BitVec 8) (scales : S144x7168.Idx → EReal) (u1 : S18432x16.Idx → EReal)
    (v1 : S16x7168.Idx → EReal) (u2 : S18432x16.Idx → EReal) (v2 : S16x7168.Idx → EReal) (y : S4x2048x7168.Idx) : EReal :=
  ∑ k : Fin 18432, x (ValueIdx.ix3 (y 0) (y 1) k) * weightR codes scales u1 v1 u2 v2 k.val (y 2).val

theorem slice_half {a b b' : ℕ} (o : ℕ) (X : (⟨2, ![a, b]⟩ : Shape).Idx → EReal)
    (h : (⟨2, ![a, b]⟩ : Shape).SlicesBy ![0, o] ![1, 2] ⟨2, ![a, b']⟩) (z : (⟨2, ![a, b']⟩ : Shape).Idx) (i j : ℕ)
    (h0 : (z 0).val = i) (h1 : o + 2 * (z 1).val = j) :
    Host.slice (⟨2, ![a, b']⟩ : Shape) ![0, o] ![1, 2] X h z = at2 X i j := by
  unfold Host.slice
  refine at2_eq X _ i j ?_ h1
  show 0 + 1 * (z 0).val = i
  omega

variable (x0 : (⟨S4x2048x18432, .bf16⟩ : BufTy).Contents (Elt Ideal)) (x1 : (⟨S18432x3584, .i8⟩ : BufTy).Contents (Elt Ideal))
  (x2 : (⟨S144x7168, .bf16⟩ : BufTy).Contents (Elt Ideal)) (x3 : (⟨S18432x16, .bf16⟩ : BufTy).Contents (Elt Ideal))
  (x4 : (⟨S16x7168, .bf16⟩ : BufTy).Contents (Elt Ideal)) (x5 : (⟨S18432x16, .bf16⟩ : BufTy).Contents (Elt Ideal))
  (x6 : (⟨S16x7168, .bf16⟩ : BufTy).Contents (Elt Ideal))

/-! ## The even columns -/

theorem codes_even (z : S18432x3584.Idx) : (val_main_v8 (F := Ideal) x1 z : EReal) = nibAt (a := 18432) (b := 3584) x1 (z 0).val (2 * (z 1).val) := by
  refine Eq.trans ?_ (nibAt_eq (a := 18432) (b := 3584) x1 z _ _ True rfl (by show (z 1).val = 2 * (z 1).val / 2; omega) (iff_of_true trivial (Nat.mul_mod_right _ _)))
  rw [val_main_v8_apply, val_main_v7_apply, val_main_v4_apply, val_main_v6_apply, val_main_v2_apply, val_main_v0_apply,
    val_main_v1_apply, val_main_v3_apply, val_main_v5_apply, val_main_c_apply, val_main_c_0_apply, val_main_c_1_apply]
  rfl

theorem scales_even (z : S18432x3584.Idx) : (val_main_v12 (F := Ideal) x2 (idx_main_v14 z) : EReal) = at2 (a := 144) (b := 7168) x2 ((z 0).val / 128) (2 * (z 1).val) := by
  have h1 : (z 1).val < 3584 := (z 1).isLt
  rw [val_main_v12_apply, val_main_v11_apply]
  refine slice_half (a := 144) (b := 7168) (b' := 3584) 0 x2 _ _ _ _ ?_ ?_
  · show ((z 0).val * 3584 + (z 1).val) / 458752 = (z 0).val / 128; omega
  · show 0 + 2 * (((z 0).val * 3584 + (z 1).val) % 3584) = 2 * (z 1).val; omega

theorem idx_even (z : S18432x3584.Idx) : idx_main_v9 (idx_main_v14 z) = z := by
  have h1 : (z 1).val < 3584 := (z 1).isLt
  funext d
  match d with
  | ⟨0, _⟩ =>
    refine Fin.ext ?_
    show ((((z 0).val * 3584 + (z 1).val) / 458752 * 128 + ((z 0).val * 3584 + (z 1).val) / 3584 % 128) * 3584 + ((z 0).val * 3584 + (z 1).val) % 3584) / 3584 = (z 0).val
    omega
  | ⟨1, _⟩ =>
    refine Fin.ext ?_
    show ((((z 0).val * 3584 + (z 1).val) / 458752 * 128 + ((z 0).val * 3584 + (z 1).val) / 3584 % 128) * 3584 + ((z 0).val * 3584 + (z 1).val) % 3584) % 3584 = (z 1).val
    omega

theorem rank1_even (z : S18432x3584.Idx) : (val_main_v16 (F := Ideal) x3 x4 z : EReal)
    = ∑ k : Fin 16, at2 (a := 18432) (b := 16) x3 (z 0).val k.val * at2 (a := 16) (b := 7168) x4 k.val (2 * (z 1).val) := by
  rw [val_main_v16_apply]
  refine Finset.sum_congr rfl fun k _ => ?_
  exact congrArg₂ (· * ·) (at2_eq (a := 18432) (b := 16) x3 _ _ _ rfl rfl) (slice_half (a := 16) (b := 7168) (b' := 3584) 0 x4 _ _ _ _ rfl (Nat.zero_add _))

theorem rank2_even (z : S18432x3584.Idx) : (val_main_v18 (F := Ideal) x5 x6 z : EReal)
    = ∑ k : Fin 16, at2 (a := 18432) (b := 16) x5 (z 0).val k.val * at2 (a := 16) (b := 7168) x6 k.val (2 * (z 1).val) := by
  rw [val_main_v18_apply]
  refine Finset.sum_congr rfl fun k _ => ?_
  exact congrArg₂ (· * ·) (at2_eq (a := 18432) (b := 16) x5 _ _ _ rfl rfl) (slice_half (a := 16) (b := 7168) (b' := 3584) 0 x6 _ _ _ _ rfl (Nat.zero_add _))

theorem weight_even (z : S18432x3584.Idx) : (val_main_v24 (F := Ideal) x1 x2 x3 x4 x5 x6 z : EReal) = weightR x1 x2 x3 x4 x5 x6 (z 0).val (2 * (z 1).val) := by
  rw [val_main_v24_apply, val_main_v23_apply, val_main_v22_apply, val_main_v21_apply, val_main_v20_apply, val_main_v19_apply, val_main_cst_apply,
    val_main_v14_apply, val_main_v13_apply, val_main_v9_apply, idx_even]
  show ((val_main_v8 (F := Ideal) x1 z : EReal) * (val_main_v12 (F := Ideal) x2 (idx_main_v14 z) : EReal)
    + Ideal.ofBits .f32 0x3E800000#32 * (val_main_v16 (F := Ideal) x3 x4 z : EReal) * (val_main_v18 (F := Ideal) x5 x6 z : EReal) : EReal) = _
  rw [codes_even, scales_even, rank1_even, rank2_even]
  rfl

theorem dot_even (y : S4x2048x3584.Idx) : (val_main_v25 (F := Ideal) x0 x1 x2 x3 x4 x5 x6 y : EReal)
    = ∑ k : Fin 18432, (x0 (ValueIdx.ix3 (y 0) (y 1) k) : EReal) * weightR x1 x2 x3 x4 x5 x6 k.val (2 * (y 2).val) := by
  rw [val_main_v25_apply]
  refine Finset.sum_congr rfl fun k _ => ?_
  refine congrArg₂ (· * ·) (congrArg x0 (funext fun d => ?_)) (weight_even x1 x2 x3 x4 x5 x6 _)
  match d with
  | ⟨0, _⟩ => rfl
  | ⟨1, _⟩ => rfl
  | ⟨2, _⟩ => rfl

/-! ## The odd columns -/

theorem codes_odd (z : S18432x3584.Idx) : (val_main_v34 (F := Ideal) x1 z : EReal) = nibAt (a := 18432) (b := 3584) x1 (z 0).val (1 + 2 * (z 1).val) := by
  refine Eq.trans ?_ (nibAt_eq (a := 18432) (b := 3584) x1 z _ _ False rfl (by show (z 1).val = (1 + 2 * (z 1).val) / 2; omega) (iff_of_false not_false (by rw [Nat.add_mul_mod_self_left]; decide)))
  rw [val_main_v34_apply, val_main_v33_apply, val_main_v30_apply, val_main_v32_apply, val_main_v28_apply, val_main_v26_apply,
    val_main_v27_apply, val_main_v29_apply, val_main_v31_apply, val_main_c_2_apply, val_main_c_3_apply, val_main_c_4_apply]
  rfl

theorem scales_odd (z : S18432x3584.Idx) : (val_main_v38 (F := Ideal) x2 (idx_main_v40 z) : EReal) = at2 (a := 144) (b := 7168) x2 ((z 0).val / 128) (1 + 2 * (z 1).val) := by
  have h1 : (z 1).val < 3584 := (z 1).isLt
  rw [val_main_v38_apply, val_main_v37_apply]
  refine slice_half (a := 144) (b := 7168) (b' := 3584) 1 x2 _ _ _ _ ?_ ?_
  · show ((z 0).val * 3584 + (z 1).val) / 458752 = (z 0).val / 128; omega
  · show 1 + 2 * (((z 0).val * 3584 + (z 1).val) % 3584) = 1 + 2 * (z 1).val; omega

theorem idx_odd (z : S18432x3584.Idx) : idx_main_v35 (idx_main_v40 z) = z := idx_even z

theorem rank1_odd (z : S18432x3584.Idx) : (val_main_v42 (F := Ideal) x3 x4 z : EReal)
    = ∑ k : Fin 16, at2 (a := 18432) (b := 16) x3 (z 0).val k.val * at2 (a := 16) (b := 7168) x4 k.val (1 + 2 * (z 1).val) := by
  rw [val_main_v42_apply]
  refine Finset.sum_congr rfl fun k _ => ?_
  exact congrArg₂ (· * ·) (at2_eq (a := 18432) (b := 16) x3 _ _ _ rfl rfl) (slice_half (a := 16) (b := 7168) (b' := 3584) 1 x4 _ _ _ _ rfl rfl)

theorem rank2_odd (z : S18432x3584.Idx) : (val_main_v44 (F := Ideal) x5 x6 z : EReal)
    = ∑ k : Fin 16, at2 (a := 18432) (b := 16) x5 (z 0).val k.val * at2 (a := 16) (b := 7168) x6 k.val (1 + 2 * (z 1).val) := by
  rw [val_main_v44_apply]
  refine Finset.sum_congr rfl fun k _ => ?_
  exact congrArg₂ (· * ·) (at2_eq (a := 18432) (b := 16) x5 _ _ _ rfl rfl) (slice_half (a := 16) (b := 7168) (b' := 3584) 1 x6 _ _ _ _ rfl rfl)

theorem weight_odd (z : S18432x3584.Idx) : (val_main_v50 (F := Ideal) x1 x2 x3 x4 x5 x6 z : EReal) = weightR x1 x2 x3 x4 x5 x6 (z 0).val (1 + 2 * (z 1).val) := by
  rw [val_main_v50_apply, val_main_v49_apply, val_main_v48_apply, val_main_v47_apply, val_main_v46_apply, val_main_v45_apply, val_main_cst_5_apply,
    val_main_v40_apply, val_main_v39_apply, val_main_v35_apply, idx_odd]
  show ((val_main_v34 (F := Ideal) x1 z : EReal) * (val_main_v38 (F := Ideal) x2 (idx_main_v40 z) : EReal)
    + Ideal.ofBits .f32 0x3E800000#32 * (val_main_v42 (F := Ideal) x3 x4 z : EReal) * (val_main_v44 (F := Ideal) x5 x6 z : EReal) : EReal) = _
  rw [codes_odd, scales_odd, rank1_odd, rank2_odd]
  rfl

theorem dot_odd (y : S4x2048x3584.Idx) : (val_main_v51 (F := Ideal) x0 x1 x2 x3 x4 x5 x6 y : EReal)
    = ∑ k : Fin 18432, (x0 (ValueIdx.ix3 (y 0) (y 1) k) : EReal) * weightR x1 x2 x3 x4 x5 x6 k.val (1 + 2 * (y 2).val) := by
  rw [val_main_v51_apply]
  refine Finset.sum_congr rfl fun k _ => ?_
  refine congrArg₂ (· * ·) (congrArg x0 (funext fun d => ?_)) (weight_odd x1 x2 x3 x4 x5 x6 _)
  match d with
  | ⟨0, _⟩ => rfl
  | ⟨1, _⟩ => rfl
  | ⟨2, _⟩ => rfl

/-! ## The result: the two halves interleaved -/

theorem result_apply (y : S4x2048x7168.Idx) : (val_main_v56 (F := Ideal) x0 x1 x2 x3 x4 x5 x6 y : EReal) = value x0 x1 x2 x3 x4 x5 x6 y := by
  unfold value
  have h0 : (y 0).val < 4 := (y 0).isLt
  have h1 : (y 1).val < 2048 := (y 1).isLt
  have h2 : (y 2).val < 7168 := (y 2).isLt
  rw [val_main_v56_apply, val_main_v55_apply]
  show (val_main_v54 (F := Ideal) x0 x1 x2 x3 x4 x5 x6 (idx_main_v55 y) : EReal) = _
  have e0 : (idx_main_v55 y 0).val = (y 0).val := by
    show (((y 0).val * 2048 + (y 1).val) * 7168 + (y 2).val) / 14680064 = (y 0).val; omega
  have e1 : (idx_main_v55 y 1).val = (y 1).val := by
    show (((y 0).val * 2048 + (y 1).val) * 7168 + (y 2).val) / 7168 % 2048 = (y 1).val; omega
  have e2 : (idx_main_v55 y 2).val = (y 2).val / 2 := by
    show (((y 0).val * 2048 + (y 1).val) * 7168 + (y 2).val) / 2 % 3584 = (y 2).val / 2; omega
  have e3 : (idx_main_v55 y 3).val = (y 2).val % 2 := by
    show (((y 0).val * 2048 + (y 1).val) * 7168 + (y 2).val) % 2 = (y 2).val % 2; omega
  generalize idx_main_v55 y = w at e0 e1 e2 e3 ⊢
  unfold val_main_v54
  by_cases hp : (y 2).val % 2 = 0
  · have hd := dot_even x0 x1 x2 x3 x4 x5 x6 (ValueIdx.ix3 (n0 := 4) (n1 := 2048) (n2 := 3584) (y 0) (y 1) ⟨(y 2).val / 2, by omega⟩)
    rw [show 2 * (⟨(y 2).val / 2, by omega⟩ : Fin 3584).val = (y 2).val from by dsimp only; omega] at hd
    refine Eq.trans ?_ hd
    refine (concatenate_apply_piece 3 _ _ w 0 (by exact Nat.zero_lt_two) S4x2048x3584x1 _ (by rfl) rfl 0 (by rfl)
      (ValueIdx.ix4 (n0 := 4) (n1 := 2048) (n2 := 3584) (n3 := 1) (y 0) (y 1) ⟨(y 2).val / 2, by omega⟩ 0) (fun b hb => ?_) ?_).trans ?_
    · match b with
      | ⟨0, _⟩ => exact e0.symm
      | ⟨1, _⟩ => exact e1.symm
      | ⟨2, _⟩ => exact e2.symm
      | ⟨3, _⟩ => exact absurd rfl hb
    · show 0 + 0 = (w 3).val; rw [e3, hp]
    · rw [val_main_v52_apply]
      refine congrArg _ (funext fun d => ?_)
      match d with
      | ⟨0, _⟩ => rfl
      | ⟨1, _⟩ => rfl
      | ⟨2, _⟩ => rfl
  · have hd := dot_odd x0 x1 x2 x3 x4 x5 x6 (ValueIdx.ix3 (n0 := 4) (n1 := 2048) (n2 := 3584) (y 0) (y 1) ⟨(y 2).val / 2, by omega⟩)
    rw [show 1 + 2 * (⟨(y 2).val / 2, by omega⟩ : Fin 3584).val = (y 2).val from by dsimp only; omega] at hd
    refine Eq.trans ?_ hd
    refine (concatenate_apply_piece 3 _ _ w 1 (by exact Nat.one_lt_two) S4x2048x3584x1 _ (by rfl) rfl 1 (by rfl)
      (ValueIdx.ix4 (n0 := 4) (n1 := 2048) (n2 := 3584) (n3 := 1) (y 0) (y 1) ⟨(y 2).val / 2, by omega⟩ 0) (fun b hb => ?_) ?_).trans ?_
    · match b with
      | ⟨0, _⟩ => exact e0.symm
      | ⟨1, _⟩ => exact e1.symm
      | ⟨2, _⟩ => exact e2.symm
      | ⟨3, _⟩ => exact absurd rfl hb
    · show 1 + 0 = (w 3).val; rw [e3]; omega
    · rw [val_main_v53_apply]
      refine congrArg _ (funext fun d => ?_)
      match d with
      | ⟨0, _⟩ => rfl
      | ⟨1, _⟩ => rfl
      | ⟨2, _⟩ => rfl

end Cert.ReferenceIdeal.Hand

end
-- ==== Proof.Hand.Match.lean ====
/- The kernel's result over the extended reals is the reference's. -/
module

public import proofs.«01_k».proof.Defs
public import proofs.«01_k».proof.Proof.Hand.Asm
public import proofs.«01_k».proof.Proof.Hand.RefVal
public import proofs.«01_k».proof.Proof.Hand.Frames

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Cert.ReferenceIdeal.Hand (weightR value)

/-! ## Reshapes read at two numbers -/

theorem at3_reshape (X : S144x7168.Idx → EReal) (i j : ℕ) :
    at3 (a := 144) (b := 7168) (shapeCast S144x1x7168 X shapeCasts_S144x7168_S144x1x7168) i j = at2 (a := 144) (b := 7168) X i j := by
  unfold at3 at2
  by_cases h : i < 144 ∧ j < 7168
  · rw [dif_pos h, dif_pos h]
    refine shapeCast_apply X _ _ _ ?_
    rw [Shape.rowMajor_val_two, Shape.rowMajor_val_three]
    show i * 7168 + j = (i * 1 + 0) * 7168 + j
    omega
  · rw [dif_neg h, dif_neg h]

theorem at2_reshape (X : S4x2048x18432.Idx → EReal) (b : Fin 4) (s : Fin 2048) (k : Fin 18432) :
    at2 (a := 8192) (b := 18432) (shapeCast S8192x18432 X shapeCasts_S4x2048x18432_S8192x18432) (b.val * 2048 + s.val) k.val = X (ValueIdx.ix3 b s k) := by
  have h : b.val * 2048 + s.val < 8192 := by omega
  refine (at2_eq (a := 8192) (b := 18432) _ (ValueIdx.ix2 ⟨b.val * 2048 + s.val, h⟩ k) _ _ rfl rfl).symm.trans ?_
  refine shapeCast_apply X _ _ _ ?_
  rw [Shape.rowMajor_val_two, Shape.rowMajor_val_three]
  rfl

/-! ## What the regions are entered with -/

variable (m : (ℓ : Loc nD τ sig) → Buf (Elt Ideal) ℓ) (c : Dev nD)

/-- An argument's contents at launch. -/
abbrev arg (r : Ref sig .tc) : Buf (Elt Ideal) ((c : Thread nD τ).loc r) := m ((c : Thread nD τ).loc r)

/-- The input's contents at launch. -/
abbrev input : S4x2048x18432.Idx → EReal := arg m c main_arg0

theorem V1_v0 : V1 m c (Proc.devRef .tc main_v0) = (shapeCast S8192x18432 (arg m c main_arg0) shapeCasts_S4x2048x18432_S8192x18432 : S8192x18432.Idx → EReal) := by
  after_results_simp <;> rfl
theorem V1_v1 : V1 m c (Proc.devRef .tc main_v1) = (shapeCast S144x1x7168 (arg m c main_arg2) shapeCasts_S144x7168_S144x1x7168 : S144x1x7168.Idx → EReal) := by
  after_results_simp <;> rfl

theorem ent1_v0 : ent1 m c main_v0 = (shapeCast S8192x18432 (arg m c main_arg0) shapeCasts_S4x2048x18432_S8192x18432 : S8192x18432.Idx → EReal) :=
  (Pipeline.afterRegion_keeps (dat0 (ent0 m) c) (V1 m c) launch0.win.arr_inj (fun _ => rfl) main_v0 (by decide)).trans (V1_v0 m c)

theorem ent1_v2 : ent1 m c main_v2 = wt0 (ent0 m) c :=
  (Pipeline.afterRegion_arr (dat0 (ent0 m) c) (V1 m c) launch0.win.arr_inj 6).trans (final0 (ent0 m) c)

theorem W3_v3 : W3 m c (Proc.devRef .tc main_v3) = prod1 (ent1 m) c :=
  (Pipeline.afterRegion_arr (dat1 (ent1 m) c) (W2 m c) launch1.win.arr_inj 2).trans (final1 (ent1 m) c)

theorem W4_v4 : W4 m c (Proc.devRef .tc main_v4) = (shapeCast S4x2048x7168 (prod1 (ent1 m) c) shapeCasts_S8192x7168_S4x2048x7168 : S4x2048x7168.Idx → EReal) := by
  rw [← W3_v3]
  unfold W4
  generalize W3 m c = W
  after_results_simp <;> rfl

theorem weight0_eq (i j : ℕ) : weight0 (ent0 m) c i j
    = weightR (arg m c main_arg1) (arg m c main_arg2) (arg m c main_arg3) (arg m c main_arg4) (arg m c main_arg5) (arg m c main_arg6) i j := by
  unfold weight0 weight weightR
  rw [show ent0 m c main_v1 = _ from V1_v1 m c, at3_reshape,
    show ent0 m c main_arg1 = arg m c main_arg1 from V1_of m c main_arg1 (by decide),
    show ent0 m c main_arg3 = arg m c main_arg3 from V1_of m c main_arg3 (by decide),
    show ent0 m c main_arg4 = arg m c main_arg4 from V1_of m c main_arg4 (by decide),
    show ent0 m c main_arg5 = arg m c main_arg5 from V1_of m c main_arg5 (by decide),
    show ent0 m c main_arg6 = arg m c main_arg6 from V1_of m c main_arg6 (by decide)]

theorem term_eq (y : S4x2048x7168.Idx) (k : Fin 18432) : term1 (ent1 m) c ((y 0).val * 2048 + (y 1).val) (y 2).val k.val
    = input m c (ValueIdx.ix3 (y 0) (y 1) k)
      * weightR (arg m c main_arg1) (arg m c main_arg2) (arg m c main_arg3) (arg m c main_arg4) (arg m c main_arg5) (arg m c main_arg6) k.val (y 2).val := by
  unfold term1
  rw [ent1_v0, ent1_v2]
  refine congrArg₂ (· * ·) (at2_reshape (arg m c main_arg0) (y 0) (y 1) k) ?_
  refine (at2_eq (a := 18432) (b := 7168) (wt0 (ent0 m) c) (ValueIdx.ix2 (n0 := 18432) (n1 := 7168) k (y 2)) _ _ rfl rfl).symm.trans ?_
  rw [wt0_apply]
  exact weight0_eq m c k.val (y 2).val

theorem unflatten (P : S8192x7168.Idx → EReal) (y : S4x2048x7168.Idx) (z : S8192x7168.Idx) (h0 : (z 0).val = (y 0).val * 2048 + (y 1).val) (h1 : (z 1).val = (y 2).val) :
    shapeCast S4x2048x7168 P shapeCasts_S8192x7168_S4x2048x7168 y = P z := by
  refine shapeCast_apply P _ _ _ ?_
  rw [Shape.rowMajor_val_two, Shape.rowMajor_val_three]
  show (z 0).val * 7168 + (z 1).val = ((y 0).val * 2048 + (y 1).val) * 7168 + (y 2).val
  rw [h0, h1]

/-- The flat row of an index of the result, and its column. -/
abbrev flat (y : S4x2048x7168.Idx) : S8192x7168.Idx :=
  ValueIdx.ix2 (n0 := 8192) (n1 := 7168) ⟨(y 0).val * 2048 + (y 1).val, by
    have h0 : (y 0).val < 4 := (y 0).isLt
    have h1 : (y 1).val < 2048 := (y 1).isLt
    omega⟩ ⟨(y 2).val, (y 2).isLt⟩

theorem prod_flat (y : S4x2048x7168.Idx) : (prod1 (ent1 m) c : S8192x7168.Idx → EReal) (flat y)
    = value (arg m c main_arg0) (arg m c main_arg1) (arg m c main_arg2) (arg m c main_arg3) (arg m c main_arg4) (arg m c main_arg5) (arg m c main_arg6) y := by
  have hs : (∑ k ∈ Finset.range 18432, term1 (ent1 m) c ((y 0).val * 2048 + (y 1).val) (y 2).val k : EReal)
      = value (arg m c main_arg0) (arg m c main_arg1) (arg m c main_arg2) (arg m c main_arg3) (arg m c main_arg4) (arg m c main_arg5) (arg m c main_arg6) y := by
    unfold value
    rw [Finset.sum_range]
    exact Finset.sum_congr rfl fun k _ => term_eq m c y k
  exact Eq.trans (α := EReal) (prod1_apply (ent1 m) c (flat y)) hs

/-- The kernel's result, element by element. -/
theorem kernel_apply (y : S4x2048x7168.Idx) : (W4 m c (Proc.devRef .tc main_v4) : S4x2048x7168.Idx → EReal) y
    = value (arg m c main_arg0) (arg m c main_arg1) (arg m c main_arg2) (arg m c main_arg3) (arg m c main_arg4) (arg m c main_arg5) (arg m c main_arg6) y := by
  have hp := prod_flat m c y
  rw [W4_v4]
  generalize prod1 (ent1 m) c = P at hp ⊢
  exact (unflatten P y (flat y) rfl rfl).trans hp

/-- The kernel's result is the reference's. -/
theorem kernel_eq : (W4 m c (Proc.devRef .tc main_v4) : S4x2048x7168.Idx → EReal)
    = Cert.ReferenceIdeal.Read.val_main_v56 (F := Ideal) (arg m c main_arg0) (arg m c main_arg1) (arg m c main_arg2) (arg m c main_arg3) (arg m c main_arg4) (arg m c main_arg5) (arg m c main_arg6) := by
  funext y
  have hk := kernel_apply m c y
  have hr := Cert.ReferenceIdeal.Hand.result_apply (arg m c main_arg0) (arg m c main_arg1) (arg m c main_arg2) (arg m c main_arg3) (arg m c main_arg4) (arg m c main_arg5) (arg m c main_arg6) y
  exact hk.trans hr.symm

end Cert.KernelIdeal.Hand

namespace Cert.Hand

open Idealize.ShloMosaic Idealize.ShloMosaic.TcCoe Idealize.SL.Sem

theorem algebraic : algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Hand.W4 m c (Proc.devRef .tc Cert.KernelIdeal.main_v4), ?_, ?_⟩
  · exact (θ_run _ _ _).mono (fun _ h c => ⟨h.1 c _ (Cert.KernelIdeal.Hand.uc_mem Cert.KernelIdeal.main_v4 rfl), Cert.KernelIdeal.Hand.args_kept m c (h.1 c)⟩)
      (Cert.KernelIdeal.Hand.run m g)
  · refine (θ_run _ _ _).mono (fun _ h c => ⟨?_, (h c).2⟩) (Cert.ReferenceIdeal.Value.run m' g')
    refine (h c).1.trans ?_
    obtain ⟨a0, a1, a2, a3, a4, a5, a6⟩ := hargs c
    rw [a0, a1, a2, a3, a4, a5, a6]
    exact (Cert.ReferenceIdeal.Read.val_main_v56_eq (F := Ideal) _ _ _ _ _ _ _).trans (Cert.KernelIdeal.Hand.kernel_eq m c).symm

end Cert.Hand

end
-- ==== Proof.lean ====
module

public import proofs.«01_k».proof.Defs
public import proofs.«01_k».proof.Proof.Hand.Frames
public import proofs.«01_k».proof.Proof.Hand.Match

@[expose] public section

noncomputable section

namespace Cert.Proof

theorem claim : Cert.Claim := ⟨Cert.Kernel.Gen.facts, Cert.KernelIdeal.Gen.facts, Cert.ReferenceIdeal.Gen.facts,
  Cert.Hand.frame_kernel, Cert.Hand.frame_ideal, Cert.Hand.frame_reference, trivial, Cert.Hand.algebraic⟩

end Cert.Proof

end
